-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_18) = v0 c
          ∧ r.2.mem ((c.tc : Thread Cert.ReferenceIdeal.nD Cert.ReferenceIdeal.τ).loc Cert.ReferenceIdeal.main_v4_19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S32x48x184x27 : Shape := ⟨4, ![32, 48, 184, 27]⟩
abbrev S32x48x184x1 : Shape := ⟨4, ![32, 48, 184, 1]⟩
abbrev S29x64 : Shape := ⟨2, ![29, 64]⟩
abbrev S64 : Shape := ⟨1, ![64]⟩
abbrev S93x192 : Shape := ⟨2, ![93, 192]⟩
abbrev S64x192 : Shape := ⟨2, ![64, 192]⟩
abbrev S192 : Shape := ⟨1, ![192]⟩
abbrev S64x1 : Shape := ⟨2, ![64, 1]⟩
abbrev S1 : Shape := ⟨1, ![1]⟩
abbrev S115872 : Shape := ⟨1, ![115872]⟩
abbrev S32x3621 : Shape := ⟨2, ![32, 3621]⟩
abbrev S_ : Shape := ⟨0, ![]⟩
abbrev S1x3621 : Shape := ⟨2, ![1, 3621]⟩
abbrev S32x24x184x27 : Shape := ⟨4, ![32, 24, 184, 27]⟩
abbrev S32x24x184x1 : Shape := ⟨4, ![32, 24, 184, 1]⟩

class Facts : Prop where
  shapeCasts_S115872_S32x3621 : S115872.ShapeCasts S32x3621
  bcast_S_S32x3621 : S_.BroadcastsInDim S32x3621 (![] : Fin 0 → Fin S32x3621.rank)
  slices_S32x3621_S1x3621_0_0 : S32x3621.Slices ![0, 0] S1x3621
  bcast_S_S1x3621 : S_.BroadcastsInDim S1x3621 (![] : Fin 0 → Fin S1x3621.rank)
  reducesTo_S1x3621_S_d0_1 : S1x3621.ReducesTo [0, 1] S_
  h_S_ : 0 < S_.numel
  bcast_S1x3621_S32x3621_0_1 : S1x3621.BroadcastsInDim S32x3621 (![0, 1] : Fin 2 → Fin S32x3621.rank)
  reducesTo_S32x3621_S_d0_1 : S32x3621.ReducesTo [0, 1] S_
  bcast_S_S1 : S_.BroadcastsInDim S1 (![] : Fin 0 → Fin S1.rank)
  reducesTo_S1_S_d0 : S1.ReducesTo [0] S_
  slices_S32x48x184x27_S32x24x184x27_0_0_0_0 : S32x48x184x27.Slices ![0, 0, 0, 0] S32x24x184x27
  bcast_S_S32x24x184x27 : S_.BroadcastsInDim S32x24x184x27 (![] : Fin 0 → Fin S32x24x184x27.rank)
  reducesTo_S32x24x184x27_S_d0_1_2_3 : S32x24x184x27.ReducesTo [0, 1, 2, 3] S_
  slices_S32x48x184x1_S32x24x184x1_0_0_0_0 : S32x48x184x1.Slices ![0, 0, 0, 0] S32x24x184x1
  bcast_S_S32x24x184x1 : S_.BroadcastsInDim S32x24x184x1 (![] : Fin 0 → Fin S32x24x184x1.rank)
  reducesTo_S32x24x184x1_S_d0_1_2_3 : S32x24x184x1.ReducesTo [0, 1, 2, 3] S_
  bcast_S_S115872 : S_.BroadcastsInDim S115872 (![] : Fin 0 → Fin S115872.rank)
  reducesTo_S115872_S_d0 : S115872.ReducesTo [0] S_
  bcast_S_S29x64 : S_.BroadcastsInDim S29x64 (![] : Fin 0 → Fin S29x64.rank)
  reducesTo_S29x64_S_d0_1 : S29x64.ReducesTo [0, 1] S_
  bcast_S_S64x1 : S_.BroadcastsInDim S64x1 (![] : Fin 0 → Fin S64x1.rank)
  reducesTo_S64x1_S_d0_1 : S64x1.ReducesTo [0, 1] S_

variable [Facts]

def fn_part3 {F : FTy → Type} [FloatOps F] (main_arg2 : FVec F S29x64 .f32) (main_arg9 : FVec F S64x1 .f32) (main_arg13 : FVec F S115872 .f32) (main_v55 : IVec S_ 1) : IVec S_ 1 :=
  let main_v56 : FVec F S115872 .f32 := Host.absf main_arg13
  let main_cst_14 : FVec F S_ .f32 := constant S_ .f32 0x7F800000#32
  let main_v57 : FVec F S115872 .f32 := broadcastInDim S115872 ![] bcast_S_S115872 main_cst_14
  let main_v58 : IVec S115872 1 := cmpf .olt main_v56 main_v57
  let main_c_15 : IVec S_ 1 := constantI S_ 1 1#1
  let main_v59 : IVec S_ 1 := (fun x v => Host.reduce IntOp.andi x v reducesTo_S115872_S_d0 h_S_) main_v58 main_c_15
  let main_v60 : IVec S_ 1 := andi main_v55 main_v59
  let main_v61 : FVec F S29x64 .f32 := Host.absf main_arg2
  let main_cst_16 : FVec F S_ .f32 := constant S_ .f32 0x7F800000#32
  let main_v62 : FVec F S29x64 .f32 := broadcastInDim S29x64 ![] bcast_S_S29x64 main_cst_16
  let main_v63 : IVec S29x64 1 := cmpf .olt main_v61 main_v62
  let main_c_17 : IVec S_ 1 := constantI S_ 1 1#1
  let main_v64 : IVec S_ 1 := (fun x v => Host.reduce IntOp.andi x v reducesTo_S29x64_S_d0_1 h_S_) main_v63 main_c_17
  let main_v65 : IVec S_ 1 := andi main_v60 main_v64
  let main_v66 : FVec F S64x1 .f32 := Host.absf main_arg9
  let main_cst_18 : FVec F S_ .f32 := constant S_ .f32 0x7F800000#32
  let main_v67 : FVec F S64x1 .f32 := broadcastInDim S64x1 ![] bcast_S_S64x1 main_cst_18
  let main_v68 : IVec S64x1 1 := cmpf .olt main_v66 main_v67
  let main_c_19 : IVec S_ 1 := constantI S_ 1 1#1
  let main_v69 : IVec S_ 1 := (fun x v => Host.reduce IntOp.andi x v reducesTo_S64x1_S_d0_1 h_S_) main_v68 main_c_19
  let main_v70 : IVec S_ 1 := andi main_v65 main_v69
  main_v70

def fn_part2 {F : FTy → Type} [FloatOps F] (main_arg0 : FVec F S32x48x184x27 .f32) (main_arg1 : FVec F S32x48x184x1 .f32) (main_arg2 : FVec F S29x64 .f32) (main_arg9 : FVec F S64x1 .f32) (main_arg10 : FVec F S1 .f32) (main_arg13 : FVec F S115872 .f32) (main_v34 : IVec S_ 1) (main_v37 : IVec S32x3621 1) (main_c_8 : IVec S_ 1) : IVec S_ 1 :=
  let main_v38 : IVec S_ 1 := (fun x v => Host.reduce IntOp.andi x v reducesTo_S32x3621_S_d0_1 h_S_) main_v37 main_c_8
  let main_v39 : IVec S_ 1 := andi main_v34 main_v38
  let main_cst : FVec F S_ .f32 := constant S_ .f32 0x00000000#32
  let main_v40 : FVec F S1 .f32 := broadcastInDim S1 ![] bcast_S_S1 main_cst
  let main_v41 : IVec S1 1 := cmpf .oeq main_arg10 main_v40
  let main_c_9 : IVec S_ 1 := constantI S_ 1 1#1
  let main_v42 : IVec S_ 1 := (fun x v => Host.reduce IntOp.andi x v reducesTo_S1_S_d0 h_S_) main_v41 main_c_9
  let main_v43 : IVec S_ 1 := andi main_v39 main_v42
  let main_v44 : FVec F S32x24x184x27 .f32 := (extractStridedSlice S32x24x184x27 ![0, 0, 0, 0] · slices_S32x48x184x27_S32x24x184x27_0_0_0_0) main_arg0
  let main_v45 : FVec F S32x24x184x27 .f32 := Host.absf main_v44
  let main_cst_10 : FVec F S_ .f32 := constant S_ .f32 0x7F800000#32
  let main_v46 : FVec F S32x24x184x27 .f32 := broadcastInDim S32x24x184x27 ![] bcast_S_S32x24x184x27 main_cst_10
  let main_v47 : IVec S32x24x184x27 1 := cmpf .olt main_v45 main_v46
  let main_c_11 : IVec S_ 1 := constantI S_ 1 1#1
  let main_v48 : IVec S_ 1 := (fun x v => Host.reduce IntOp.andi x v reducesTo_S32x24x184x27_S_d0_1_2_3 h_S_) main_v47 main_c_11
  let main_v49 : IVec S_ 1 := andi main_v43 main_v48
  let main_v50 : FVec F S32x24x184x1 .f32 := (extractStridedSlice S32x24x184x1 ![0, 0, 0, 0] · slices_S32x48x184x1_S32x24x184x1_0_0_0_0) main_arg1
  let main_v51 : FVec F S32x24x184x1 .f32 := Host.absf main_v50
  let main_cst_12 : FVec F S_ .f32 := constant S_ .f32 0x7F800000#32
  let main_v52 : FVec F S32x24x184x1 .f32 := broadcastInDim S32x24x184x1 ![] bcast_S_S32x24x184x1 main_cst_12
  let main_v53 : IVec S32x24x184x1 1 := cmpf .olt main_v51 main_v52
  let main_c_13 : IVec S_ 1 := constantI S_ 1 1#1
  let main_v54 : IVec S_ 1 := (fun x v => Host.reduce IntOp.andi x v reducesTo_S32x24x184x1_S_d0_1_2_3 h_S_) main_v53 main_c_13
  let main_v55 : IVec S_ 1 := andi main_v49 main_v54
  fn_part3 (F := F) main_arg2 main_arg9 main_arg13 main_v55

def fn_part1 {F : FTy → Type} [FloatOps F] (main_arg0 : FVec F S32x48x184x27 .f32) (main_arg1 : FVec F S32x48x184x1 .f32) (main_arg2 : FVec F S29x64 .f32) (main_arg9 : FVec F S64x1 .f32) (main_arg10 : FVec F S1 .f32) (main_arg13 : FVec F S115872 .f32) (main_v0 : IVec S32x3621 32) (main_v1 : IVec S32x3621 32) (main_v2 : FVec F S32x3621 .f32) (main_v5 : IVec S32x3621 32) (main_v13 : IVec S_ 1) (main_v16 : IVec S1x3621 1) (main_v17 : IVec S1x3621 32) (main_c_4 : IVec S_ 32) : IVec S_ 1 :=
  let main_v18 : IVec S1x3621 32 := broadcastInDim S1x3621 ![] bcast_S_S1x3621 main_c_4
  let main_v19 : IVec S1x3621 1 := cmpi .slt main_v17 main_v18
  let main_v20 : IVec S1x3621 1 := andi main_v16 main_v19
  let main_c_5 : IVec S_ 1 := constantI S_ 1 1#1
  let main_v21 : IVec S_ 1 := (fun x v => Host.reduce IntOp.andi x v reducesTo_S1x3621_S_d0_1 h_S_) main_v20 main_c_5
  let main_v22 : IVec S_ 1 := andi main_v13 main_v21
  let main_v23 : IVec S1x3621 32 := (extractStridedSlice S1x3621 ![0, 0] · slices_S32x3621_S1x3621_0_0) main_v0
  let main_v24 : IVec S32x3621 32 := broadcastInDim S32x3621 ![0, 1] bcast_S1x3621_S32x3621_0_1 main_v23
  let main_v25 : IVec S32x3621 32 := addi main_v24 main_v5
  let main_v26 : IVec S32x3621 1 := cmpi .eq main_v0 main_v25
  let main_c_6 : IVec S_ 1 := constantI S_ 1 1#1
  let main_v27 : IVec S_ 1 := (fun x v => Host.reduce IntOp.andi x v reducesTo_S32x3621_S_d0_1 h_S_) main_v26 main_c_6
  let main_v28 : IVec S_ 1 := andi main_v22 main_v27
  let main_v29 : IVec S1x3621 32 := (extractStridedSlice S1x3621 ![0, 0] · slices_S32x3621_S1x3621_0_0) main_v1
  let main_v30 : IVec S32x3621 32 := broadcastInDim S32x3621 ![0, 1] bcast_S1x3621_S32x3621_0_1 main_v29
  let main_v31 : IVec S32x3621 32 := addi main_v30 main_v5
  let main_v32 : IVec S32x3621 1 := cmpi .eq main_v1 main_v31
  let main_c_7 : IVec S_ 1 := constantI S_ 1 1#1
  let main_v33 : IVec S_ 1 := (fun x v => Host.reduce IntOp.andi x v reducesTo_S32x3621_S_d0_1 h_S_) main_v32 main_c_7
  let main_v34 : IVec S_ 1 := andi main_v28 main_v33
  let main_v35 : FVec F S1x3621 .f32 := (extractStridedSlice S1x3621 ![0, 0] · slices_S32x3621_S1x3621_0_0) main_v2
  let main_v36 : FVec F S32x3621 .f32 := broadcastInDim S32x3621 ![0, 1] bcast_S1x3621_S32x3621_0_1 main_v35
  let main_v37 : IVec S32x3621 1 := cmpf .oeq main_v2 main_v36
  let main_c_8 : IVec S_ 1 := constantI S_ 1 1#1
  fn_part2 (F := F) main_arg0 main_arg1 main_arg2 main_arg9 main_arg10 main_arg13 main_v34 main_v37 main_c_8

def fn {F : FTy → Type} [FloatOps F] (main_arg0 : FVec F S32x48x184x27 .f32) (main_arg1 : FVec F S32x48x184x1 .f32) (main_arg2 : FVec F S29x64 .f32) (main_arg3 : FVec F S29x64 .f32) (main_arg4 : FVec F S64 .f32) (main_arg5 : FVec F S93x192 .f32) (main_arg6 : FVec F S64x192 .f32) (main_arg7 : FVec F S192 .f32) (main_arg8 : FVec F S192 .f32) (main_arg9 : FVec F S64x1 .f32) (main_arg10 : FVec F S1 .f32) (main_arg11 : IVec S115872 32) (main_arg12 : IVec S115872 32) (main_arg13 : FVec F S115872 .f32) : IVec S_ 1 :=
  let main_v0 : IVec S32x3621 32 := shapeCast S32x3621 main_arg11 shapeCasts_S115872_S32x3621
  let main_v1 : IVec S32x3621 32 := shapeCast S32x3621 main_arg12 shapeCasts_S115872_S32x3621
  let main_v2 : FVec F S32x3621 .f32 := shapeCast S32x3621 main_arg13 shapeCasts_S115872_S32x3621
  let main_v3 : IVec S32x3621 32 := iotaInDim S32x3621 32 0
  let main_c : IVec S_ 32 := constantI S_ 32 184#32
  let main_v4 : IVec S32x3621 32 := broadcastInDim S32x3621 ![] bcast_S_S32x3621 main_c
  let main_v5 : IVec S32x3621 32 := muli main_v3 main_v4
  let main_v6 : IVec S1x3621 32 := (extractStridedSlice S1x3621 ![0, 0] · slices_S32x3621_S1x3621_0_0) main_v0
  let main_c_0 : IVec S_ 32 := constantI S_ 32 0#32
  let main_v7 : IVec S1x3621 32 := broadcastInDim S1x3621 ![] bcast_S_S1x3621 main_c_0
  let main_v8 : IVec S1x3621 1 := cmpi .sge main_v6 main_v7
  let main_v9 : IVec S1x3621 32 := (extractStridedSlice S1x3621 ![0, 0] · slices_S32x3621_S1x3621_0_0) main_v0
  let main_c_1 : IVec S_ 32 := constantI S_ 32 184#32
  let main_v10 : IVec S1x3621 32 := broadcastInDim S1x3621 ![] bcast_S_S1x3621 main_c_1
  let main_v11 : IVec S1x3621 1 := cmpi .slt main_v9 main_v10
  let main_v12 : IVec S1x3621 1 := andi main_v8 main_v11
  let main_c_2 : IVec S_ 1 := constantI S_ 1 1#1
  let main_v13 : IVec S_ 1 := (fun x v => Host.reduce IntOp.andi x v reducesTo_S1x3621_S_d0_1 h_S_) main_v12 main_c_2
  let main_v14 : IVec S1x3621 32 := (extractStridedSlice S1x3621 ![0, 0] · slices_S32x3621_S1x3621_0_0) main_v1
  let main_c_3 : IVec S_ 32 := constantI S_ 32 0#32
  let main_v15 : IVec S1x3621 32 := broadcastInDim S1x3621 ![] bcast_S_S1x3621 main_c_3
  let main_v16 : IVec S1x3621 1 := cmpi .sge main_v14 main_v15
  let main_v17 : IVec S1x3621 32 := (extractStridedSlice S1x3621 ![0, 0] · slices_S32x3621_S1x3621_0_0) main_v1
  let main_c_4 : IVec S_ 32 := constantI S_ 32 184#32
  fn_part1 (F := F) main_arg0 main_arg1 main_arg2 main_arg9 main_arg10 main_arg13 main_v0 main_v1 main_v2 main_v5 main_v13 main_v16 main_v17 main_c_4
-- ==== Kernel.lean ====
abbrev S32x48x184x27 : Shape := ⟨4, ![32, 48, 184, 27]⟩
abbrev S32x48x184x1 : Shape := ⟨4, ![32, 48, 184, 1]⟩
abbrev S29x64 : Shape := ⟨2, ![29, 64]⟩
abbrev S64 : Shape := ⟨1, ![64]⟩
abbrev S93x192 : Shape := ⟨2, ![93, 192]⟩
abbrev S64x192 : Shape := ⟨2, ![64, 192]⟩
abbrev S192 : Shape := ⟨1, ![192]⟩
abbrev S64x1 : Shape := ⟨2, ![64, 1]⟩
abbrev S1 : Shape := ⟨1, ![1]⟩
abbrev S115872 : Shape := ⟨1, ![115872]⟩
abbrev S3621 : Shape := ⟨1, ![3621]⟩
abbrev S_ : Shape := ⟨0, ![]⟩
abbrev S3712 : Shape := ⟨1, ![3712]⟩
abbrev S3712x1 : Shape := ⟨2, ![3712, 1]⟩
abbrev S1x3712 : Shape := ⟨2, ![1, 3712]⟩
abbrev S32x24x184x1 : Shape := ⟨4, ![32, 24, 184, 1]⟩
abbrev S32x24x184x27 : Shape := ⟨4, ![32, 24, 184, 27]⟩
abbrev S32x24x184x29 : Shape := ⟨4, ![32, 24, 184, 29]⟩
abbrev S64x28 : Shape := ⟨2, ![64, 28]⟩
abbrev S64x29 : Shape := ⟨2, ![64, 29]⟩
abbrev S1x64 : Shape := ⟨2, ![1, 64]⟩
abbrev S29x192 : Shape := ⟨2, ![29, 192]⟩
abbrev S128 : Shape := ⟨1, ![128]⟩
abbrev S1x192 : Shape := ⟨2, ![1, 192]⟩
abbrev S1x1 : Shape := ⟨2, ![1, 1]⟩
abbrev S32x24x184x64 : Shape := ⟨4, ![32, 24, 184, 64]⟩
abbrev S32x1x184x29 : Shape := ⟨4, ![32, 1, 184, 29]⟩
abbrev S32x1x184x64 : Shape := ⟨4, ![32, 1, 184, 64]⟩
abbrev S32x1x184x1 : Shape := ⟨4, ![32, 1, 184, 1]⟩
abbrev S184x184 : Shape := ⟨2, ![184, 184]⟩
abbrev S5888x64 : Shape := ⟨2, ![5888, 64]⟩
abbrev S5888x29 : Shape := ⟨2, ![5888, 29]⟩
abbrev S184x3712 : Shape := ⟨2, ![184, 3712]⟩
abbrev S3712x184 : Shape := ⟨2, ![3712, 184]⟩
abbrev S184x64 : Shape := ⟨2, ![184, 64]⟩
abbrev S5888x192 : Shape := ⟨2, ![5888, 192]⟩
abbrev S5888x128 : Shape := ⟨2, ![5888, 128]⟩
abbrev S1x128 : Shape := ⟨2, ![1, 128]⟩
abbrev S5888x1 : Shape := ⟨2, ![5888, 1]⟩

abbrev nBuf : Space → Nat
  | .hbm => 56
  | .vmem => 22
  | .smem => 0
  | _ => 0

abbrev bufTy : (tb : Table) → Fin (tcTables nBuf tb) → BufTy
  | .hbm, ⟨0, _⟩ => ⟨S32x48x184x27, .f32⟩
  | .hbm, ⟨1, _⟩ => ⟨S32x48x184x1, .f32⟩
  | .hbm, ⟨2, _⟩ => ⟨S29x64, .f32⟩
  | .hbm, ⟨3, _⟩ => ⟨S29x64, .f32⟩
  | .hbm, ⟨4, _⟩ => ⟨S64, .f32⟩
  | .hbm, ⟨5, _⟩ => ⟨S93x192, .f32⟩
  | .hbm, ⟨6, _⟩ => ⟨S64x192, .f32⟩
  | .hbm, ⟨7, _⟩ => ⟨S192, .f32⟩
  | .hbm, ⟨8, _⟩ => ⟨S192, .f32⟩
  | .hbm, ⟨9, _⟩ => ⟨S64x1, .f32⟩
  | .hbm, ⟨10, _⟩ => ⟨S1, .f32⟩
  | .hbm, ⟨11, _⟩ => ⟨S115872, .i32⟩
  | .hbm, ⟨12, _⟩ => ⟨S115872, .i32⟩
  | .hbm, ⟨13, _⟩ => ⟨S115872, .f32⟩
  | .hbm, ⟨14, _⟩ => ⟨S3621, .i32⟩
  | .hbm, ⟨15, _⟩ => ⟨S_, .i32⟩
  | .hbm, ⟨16, _⟩ => ⟨S_, .i32⟩
  | .hbm, ⟨17, _⟩ => ⟨S3712, .i32⟩
  | .hbm, ⟨18, _⟩ => ⟨S3712x1, .i32⟩
  | .hbm, ⟨19, _⟩ => ⟨S3621, .i32⟩
  | .hbm, ⟨20, _⟩ => ⟨S_, .i32⟩
  | .hbm, ⟨21, _⟩ => ⟨S_, .i32⟩
  | .hbm, ⟨22, _⟩ => ⟨S3712, .i32⟩
  | .hbm, ⟨23, _⟩ => ⟨S1x3712, .i32⟩
  | .hbm, ⟨24, _⟩ => ⟨S3621, .f32⟩
  | .hbm, ⟨25, _⟩ => ⟨S_, .i32⟩
  | .hbm, ⟨26, _⟩ => ⟨S_, .f32⟩
  | .hbm, ⟨27, _⟩ => ⟨S3712, .f32⟩
  | .hbm, ⟨28, _⟩ => ⟨S3712x1, .f32⟩
  | .hbm, ⟨29, _⟩ => ⟨S_, .f32⟩
  | .hbm, ⟨30, _⟩ => ⟨S32x24x184x1, .f32⟩
  | .hbm, ⟨31, _⟩ => ⟨S32x24x184x1, .f32⟩
  | .hbm, ⟨32, _⟩ => ⟨S32x24x184x27, .f32⟩
  | .hbm, ⟨33, _⟩ => ⟨S32x24x184x29, .f32⟩
  | .hbm, ⟨34, _⟩ => ⟨S32x24x184x29, .bf16⟩
  | .hbm, ⟨35, _⟩ => ⟨S_, .f32⟩
  | .hbm, ⟨36, _⟩ => ⟨S64x28, .f32⟩
  | .hbm, ⟨37, _⟩ => ⟨S64x29, .f32⟩
  | .hbm, ⟨38, _⟩ => ⟨S29x64, .bf16⟩
  | .hbm, ⟨39, _⟩ => ⟨S29x64, .bf16⟩
  | .hbm, ⟨40, _⟩ => ⟨S1x64, .f32⟩
  | .hbm, ⟨41, _⟩ => ⟨S29x192, .f32⟩
  | .hbm, ⟨42, _⟩ => ⟨S29x192, .bf16⟩
  | .hbm, ⟨43, _⟩ => ⟨S64x192, .f32⟩
  | .hbm, ⟨44, _⟩ => ⟨S64x192, .bf16⟩
  | .hbm, ⟨45, _⟩ => ⟨S192, .f32⟩
  | .hbm, ⟨46, _⟩ => ⟨S128, .f32⟩
  | .hbm, ⟨47, _⟩ => ⟨S64, .f32⟩
  | .hbm, ⟨48, _⟩ => ⟨S192, .f32⟩
  | .hbm, ⟨49, _⟩ => ⟨S1x192, .f32⟩
  | .hbm, ⟨50, _⟩ => ⟨S64x192, .bf16⟩
  | .hbm, ⟨51, _⟩ => ⟨S1x192, .f32⟩
  | .hbm, ⟨52, _⟩ => ⟨S64x29, .bf16⟩
  | .hbm, ⟨53, _⟩ => ⟨S1x1, .f32⟩
  | .hbm, ⟨54, _⟩ => ⟨S32x24x184x64, .f32⟩
  | .hbm, ⟨55, _⟩ => ⟨S32x24x184x1, .f32⟩
  | .local _ .vmem, ⟨0, _⟩ => ⟨S32x1x184x29, .bf16⟩
  | .local _ .vmem, ⟨1, _⟩ => ⟨S32x1x184x29, .bf16⟩
  | .local _ .vmem, ⟨2, _⟩ => ⟨S1x3712, .i32⟩
  | .local _ .vmem, ⟨3, _⟩ => ⟨S3712x1, .i32⟩
  | .local _ .vmem, ⟨4, _⟩ => ⟨S3712x1, .f32⟩
  | .local _ .vmem, ⟨5, _⟩ => ⟨S29x64, .bf16⟩
  | .local _ .vmem, ⟨6, _⟩ => ⟨S29x64, .bf16⟩
  | .local _ .vmem, ⟨7, _⟩ => ⟨S1x64, .f32⟩
  | .local _ .vmem, ⟨8, _⟩ => ⟨S29x192, .bf16⟩
  | .local _ .vmem, ⟨9, _⟩ => ⟨S64x192, .bf16⟩
  | .local _ .vmem, ⟨10, _⟩ => ⟨S1x192, .f32⟩
  | .local _ .vmem, ⟨11, _⟩ => ⟨S64x192, .bf16⟩
  | .local _ .vmem, ⟨12, _⟩ => ⟨S1x192, .f32⟩
  | .local _ .vmem, ⟨13, _⟩ => ⟨S64x29, .bf16⟩
  | .local _ .vmem, ⟨14, _⟩ => ⟨S1x1, .f32⟩
  | .local _ .vmem, ⟨15, _⟩ => ⟨S32x1x184x64, .f32⟩
  | .local _ .vmem, ⟨16, _⟩ => ⟨S32x1x184x64, .f32⟩
  | .local _ .vmem, ⟨17, _⟩ => ⟨S32x1x184x1, .f32⟩
  | .local _ .vmem, ⟨18, _⟩ => ⟨S32x1x184x1, .f32⟩
  | .local _ .vmem, ⟨19, _⟩ => ⟨S184x184, .bf16⟩
  | .local _ .vmem, ⟨20, _⟩ => ⟨S5888x64, .f32⟩
  | .local _ .vmem, ⟨21, _⟩ => ⟨S5888x29, .bf16⟩
  | _, _ => ⟨S32x48x184x27, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_call1_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_call2_v0 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32_0 : Ref sig .tc := ⟨.hbm, 54, rfl⟩
abbrev main_v32_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨2, ![24, 1], ![false, false]⟩

def k0_off1 (i : grid0.Coords) : Fin 2 → Nat :=
  let arg1 : BitVec 32 := BitVec.ofNat 32 (i 1).val
  let c5888_i32 : BitVec 32 := 5888#32
  let v5 : BitVec 32 := Scalar.muli arg1 c5888_i32
  let v9 : Index := Scalar.indexCast v5
  let c0_5 : Index := 0#32
  ![v9.toNat, 0]
def k0_off2 (i : grid0.Coords) : Fin 2 → Nat :=
  let arg1 : BitVec 32 := BitVec.ofNat 32 (i 1).val
  let c5888_i32 : BitVec 32 := 5888#32
  let v5 : BitVec 32 := Scalar.muli arg1 c5888_i32
  let v12 : Index := Scalar.indexCast v5
  let c0_6 : Index := 0#32
  ![v12.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S32x1x184x29 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3712 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3712x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3712x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S29x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S29x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S29x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x29 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S32x1x184x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x1x184x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S32x48x184x27 : Shape := ⟨4, ![32, 48, 184, 27]⟩
abbrev S32x48x184x1 : Shape := ⟨4, ![32, 48, 184, 1]⟩
abbrev S29x64 : Shape := ⟨2, ![29, 64]⟩
abbrev S64 : Shape := ⟨1, ![64]⟩
abbrev S93x192 : Shape := ⟨2, ![93, 192]⟩
abbrev S64x192 : Shape := ⟨2, ![64, 192]⟩
abbrev S192 : Shape := ⟨1, ![192]⟩
abbrev S64x1 : Shape := ⟨2, ![64, 1]⟩
abbrev S1 : Shape := ⟨1, ![1]⟩
abbrev S115872 : Shape := ⟨1, ![115872]⟩
abbrev S_ : Shape := ⟨0, ![]⟩
abbrev S5888x64 : Shape := ⟨2, ![5888, 64]⟩
abbrev S32x184x1 : Shape := ⟨3, ![32, 184, 1]⟩
abbrev S32x24x184x64 : Shape := ⟨4, ![32, 24, 184, 64]⟩
abbrev S32x24x184x1 : Shape := ⟨4, ![32, 24, 184, 1]⟩
abbrev S32x1x184x1 : Shape := ⟨4, ![32, 1, 184, 1]⟩
abbrev S32x1x184x27 : Shape := ⟨4, ![32, 1, 184, 27]⟩
abbrev S32x184x27 : Shape := ⟨3, ![32, 184, 27]⟩
abbrev S32x184x29 : Shape := ⟨3, ![32, 184, 29]⟩
abbrev S5888x29 : Shape := ⟨2, ![5888, 29]⟩
abbrev S115872x1 : Shape := ⟨2, ![115872, 1]⟩
abbrev S115872x29 : Shape := ⟨2, ![115872, 29]⟩
abbrev S1x64 : Shape := ⟨2, ![1, 64]⟩
abbrev S5888x93 : Shape := ⟨2, ![5888, 93]⟩
abbrev S5888x192 : Shape := ⟨2, ![5888, 192]⟩
abbrev S1x192 : Shape := ⟨2, ![1, 192]⟩
abbrev S32x184x64 : Shape := ⟨3, ![32, 184, 64]⟩
abbrev S1x1x1 : Shape := ⟨3, ![1, 1, 1]⟩
abbrev S32x23x184x64 : Shape := ⟨4, ![32, 23, 184, 64]⟩
abbrev S32x1x184x64 : Shape := ⟨4, ![32, 1, 184, 64]⟩
abbrev S32x23x184x1 : Shape := ⟨4, ![32, 23, 184, 1]⟩

abbrev nBuf : Space → Nat
  | .hbm => 164
  | .vmem => 0
  | .smem => 0
  | _ => 0

abbrev hbmTy0_0 (i : Nat) : BufTy := match i % 128 with
  | 0 => ⟨S32x48x184x27, .f32⟩
  | 1 => ⟨S32x48x184x1, .f32⟩
  | 2 => ⟨S29x64, .f32⟩
  | 3 => ⟨S29x64, .f32⟩
  | 4 => ⟨S64, .f32⟩
  | 5 => ⟨S93x192, .f32⟩
  | 6 => ⟨S64x192, .f32⟩
  | 7 => ⟨S192, .f32⟩
  | 8 => ⟨S192, .f32⟩
  | 9 => ⟨S64x1, .f32⟩
  | 10 => ⟨S1, .f32⟩
  | 11 => ⟨S115872, .i32⟩
  | 12 => ⟨S115872, .i32⟩
  | 13 => ⟨S115872, .f32⟩
  | 14 => ⟨S_, .f32⟩
  | 15 => ⟨S5888x64, .f32⟩
  | 16 => ⟨S_, .f32⟩
  | 17 => ⟨S32x184x1, .f32⟩
  | 18 => ⟨S_, .f32⟩
  | 19 => ⟨S32x24x184x64, .f32⟩
  | 20 => ⟨S_, .f32⟩
  | 21 => ⟨S32x24x184x1, .f32⟩
  | 22 => ⟨S_, .i32⟩
  | 23 => ⟨S_, .i32⟩
  | 24 => ⟨S32x48x184x1, .f32⟩
  | 25 => ⟨S32x48x184x27, .f32⟩
  | 26 => ⟨S115872, .f32⟩
  | 27 => ⟨S115872, .i32⟩
  | 28 => ⟨S115872, .i32⟩
  | 29 => ⟨S29x64, .f32⟩
  | 30 => ⟨S29x64, .f32⟩
  | 31 => ⟨S64, .f32⟩
  | 32 => ⟨S93x192, .f32⟩
  | 33 => ⟨S192, .f32⟩
  | 34 => ⟨S64x192, .f32⟩
  | 35 => ⟨S192, .f32⟩
  | 36 => ⟨S64x1, .f32⟩
  | 37 => ⟨S1, .f32⟩
  | 38 => ⟨S_, .i32⟩
  | 39 => ⟨S_, .i32⟩
  | 40 => ⟨S5888x64, .f32⟩
  | 41 => ⟨S32x184x1, .f32⟩
  | 42 => ⟨S32x24x184x64, .f32⟩
  | 43 => ⟨S32x24x184x1, .f32⟩
  | 44 => ⟨S_, .i32⟩
  | 45 => ⟨S_, .i1⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S32x1x184x1, .f32⟩
  | 58 => ⟨S32x184x1, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S32x1x184x27, .f32⟩
  | 69 => ⟨S32x184x27, .f32⟩
  | 70 => ⟨S32x184x29, .f32⟩
  | 71 => ⟨S5888x29, .f32⟩
  | 72 => ⟨S115872x1, .f32⟩
  | 73 => ⟨S_, .i32⟩
  | 74 => ⟨S115872, .i32⟩
  | 75 => ⟨S115872, .i1⟩
  | 76 => ⟨S_, .i32⟩
  | 77 => ⟨S115872, .i32⟩
  | 78 => ⟨S115872, .i32⟩
  | 79 => ⟨S115872, .i32⟩
  | 80 => ⟨S115872x1, .i32⟩
  | 81 => ⟨S115872x29, .f32⟩
  | 82 => ⟨S115872x29, .f32⟩
  | 83 => ⟨S115872x29, .f32⟩
  | 84 => ⟨S_, .f32⟩
  | 85 => ⟨S5888x29, .f32⟩
  | 86 => ⟨S_, .i32⟩
  | 87 => ⟨S115872, .i32⟩
  | 88 => ⟨S115872, .i1⟩
  | 89 => ⟨S_, .i32⟩
  | 90 => ⟨S115872, .i32⟩
  | 91 => ⟨S115872, .i32⟩
  | 92 => ⟨S115872, .i32⟩
  | 93 => ⟨S115872x1, .i32⟩
  | 94 => ⟨S5888x29, .f32⟩
  | 95 => ⟨S5888x64, .f32⟩
  | 96 => ⟨S5888x64, .f32⟩
  | 97 => ⟨S5888x64, .f32⟩
  | 98 => ⟨S1x64, .f32⟩
  | 99 => ⟨S5888x64, .f32⟩
  | 100 => ⟨S5888x64, .f32⟩
  | 101 => ⟨S5888x64, .f32⟩
  | 102 => ⟨S5888x64, .f32⟩
  | 103 => ⟨S_, .f32⟩
  | 104 => ⟨S5888x64, .f32⟩
  | 105 => ⟨S5888x64, .f32⟩
  | 106 => ⟨S_, .f32⟩
  | 107 => ⟨S5888x64, .f32⟩
  | 108 => ⟨S5888x64, .f32⟩
  | 109 => ⟨S5888x93, .f32⟩
  | 110 => ⟨S5888x192, .f32⟩
  | 111 => ⟨S1x192, .f32⟩
  | 112 => ⟨S5888x192, .f32⟩
  | 113 => ⟨S5888x192, .f32⟩
  | 114 => ⟨S5888x192, .f32⟩
  | 115 => ⟨S1x192, .f32⟩
  | 116 => ⟨S5888x192, .f32⟩
  | 117 => ⟨S5888x192, .f32⟩
  | 118 => ⟨S5888x64, .f32⟩
  | 119 => ⟨S5888x64, .f32⟩
  | 120 => ⟨S5888x64, .f32⟩
  | 121 => ⟨S5888x64, .f32⟩
  | 122 => ⟨S5888x64, .f32⟩
  | 123 => ⟨S5888x64, .f32⟩
  | 124 => ⟨S5888x64, .f32⟩
  | 125 => ⟨S5888x64, .f32⟩
  | 126 => ⟨S5888x64, .f32⟩
  | 127 => ⟨S_, .f32⟩
  | _ => ⟨S32x48x184x27, .f32⟩

abbrev hbmTy0_1 (i : Nat) : BufTy := match i % 128 with
  | 0 => ⟨S5888x64, .f32⟩
  | 1 => ⟨S5888x64, .f32⟩
  | 2 => ⟨S_, .f32⟩
  | 3 => ⟨S5888x64, .f32⟩
  | 4 => ⟨S5888x64, .f32⟩
  | 5 => ⟨S5888x64, .f32⟩
  | 6 => ⟨S5888x64, .f32⟩
  | 7 => ⟨S5888x64, .f32⟩
  | 8 => ⟨S_, .f32⟩
  | 9 => ⟨S5888x64, .f32⟩
  | 10 => ⟨S5888x64, .f32⟩
  | 11 => ⟨S_, .f32⟩
  | 12 => ⟨S5888x64, .f32⟩
  | 13 => ⟨S5888x64, .f32⟩
  | 14 => ⟨S5888x64, .f32⟩
  | 15 => ⟨S5888x64, .f32⟩
  | 16 => ⟨S5888x64, .f32⟩
  | 17 => ⟨S_, .f32⟩
  | 18 => ⟨S5888x64, .f32⟩
  | 19 => ⟨S5888x64, .f32⟩
  | 20 => ⟨S5888x64, .f32⟩
  | 21 => ⟨S5888x64, .f32⟩
  | 22 => ⟨S5888x64, .f32⟩
  | 23 => ⟨S32x184x64, .f32⟩
  | 24 => ⟨S32x184x1, .f32⟩
  | 25 => ⟨S1x1x1, .f32⟩
  | 26 => ⟨S32x184x1, .f32⟩
  | 27 => ⟨S32x184x1, .f32⟩
  | 28 => ⟨S32x23x184x64, .f32⟩
  | 29 => ⟨S32x1x184x64, .f32⟩
  | 30 => ⟨S32x24x184x64, .f32⟩
  | 31 => ⟨S32x23x184x1, .f32⟩
  | 32 => ⟨S32x1x184x1, .f32⟩
  | 33 => ⟨S32x24x184x1, .f32⟩
  | 34 => ⟨S_, .i32⟩
  | 35 => ⟨S_, .i32⟩
  | _ => ⟨S32x48x184x27, .f32⟩

abbrev hbmTy (i : Nat) : BufTy := match i / 128 with
  | 0 => hbmTy0_0 i
  | 1 => hbmTy0_1 i
  | _ => ⟨S32x48x184x27, .f32⟩

abbrev bufTy : (tb : Table) → Fin (tcTables nBuf tb) → BufTy
  | .hbm, ⟨i, _⟩ => hbmTy i
  | _, _ => ⟨S32x48x184x27, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_cst_2 : Ref sig .tc := ⟨.hbm, 20, rfl⟩
abbrev main_v3 : Ref sig .tc := ⟨.hbm, 21, rfl⟩
abbrev main_c : Ref sig .tc := ⟨.hbm, 22, rfl⟩
abbrev main_c_3 : Ref sig .tc := ⟨.hbm, 23, rfl⟩
abbrev main_v4_0 : Ref sig .tc := ⟨.hbm, 24, rfl⟩
abbrev main_v4_1 : Ref sig .tc := ⟨.hbm, 25, rfl⟩
abbrev main_v4_2 : Ref sig .tc := ⟨.hbm, 26, rfl⟩
abbrev main_v4_3 : Ref sig .tc := ⟨.hbm, 27, rfl⟩
abbrev main_v4_4 : Ref sig .tc := ⟨.hbm, 28, rfl⟩
abbrev main_v4_5 : Ref sig .tc := ⟨.hbm, 29, rfl⟩
abbrev main_v4_6 : Ref sig .tc := ⟨.hbm, 30, rfl⟩
abbrev main_v4_7 : Ref sig .tc := ⟨.hbm, 31, rfl⟩
abbrev main_v4_8 : Ref sig .tc := ⟨.hbm, 32, rfl⟩
abbrev main_v4_9 : Ref sig .tc := ⟨.hbm, 33, rfl⟩
abbrev main_v4_10 : Ref sig .tc := ⟨.hbm, 34, rfl⟩
abbrev main_v4_11 : Ref sig .tc := ⟨.hbm, 35, rfl⟩
abbrev main_v4_12 : Ref sig .tc := ⟨.hbm, 36, rfl⟩
abbrev main_v4_13 : Ref sig .tc := ⟨.hbm, 37, rfl⟩
abbrev main_v4_14 : Ref sig .tc := ⟨.hbm, 38, rfl⟩
abbrev main_v4_15 : Ref sig .tc := ⟨.hbm, 39, rfl⟩
abbrev main_v4_16 : Ref sig .tc := ⟨.hbm, 40, rfl⟩
abbrev main_v4_17 : Ref sig .tc := ⟨.hbm, 41, rfl⟩
abbrev main_v4_18 : Ref sig .tc := ⟨.hbm, 42, rfl⟩
abbrev main_v4_19 : Ref sig .tc := ⟨.hbm, 43, rfl⟩
abbrev main_while0c_c_23 : Ref sig .tc := ⟨.hbm, 44, rfl⟩
abbrev main_while0c_v5 : Ref sig .tc := ⟨.hbm, 45, rfl⟩
abbrev main_while0b_c_23 : Ref sig .tc := ⟨.hbm, 46, rfl⟩
abbrev main_while0b_v5 : Ref sig .tc := ⟨.hbm, 47, rfl⟩
abbrev main_while0b_c_24 : Ref sig .tc := ⟨.hbm, 48, rfl⟩
abbrev main_while0b_v6 : Ref sig .tc := ⟨.hbm, 49, rfl⟩
abbrev main_while0b_v7 : Ref sig .tc := ⟨.hbm, 50, rfl⟩
abbrev main_while0b_c_25 : Ref sig .tc := ⟨.hbm, 51, rfl⟩
abbrev main_while0b_v8 : Ref sig .tc := ⟨.hbm, 52, rfl⟩
abbrev main_while0b_v9 : Ref sig .tc := ⟨.hbm, 53, rfl⟩
abbrev main_while0b_c_26 : Ref sig .tc := ⟨.hbm, 54, rfl⟩
abbrev main_while0b_c_27 : Ref sig .tc := ⟨.hbm, 55, rfl⟩
abbrev main_while0b_c_28 : Ref sig .tc := ⟨.hbm, 56, rfl⟩
abbrev main_while0b_v10 : Ref sig .tc := ⟨.hbm, 57, rfl⟩
abbrev main_while0b_v11 : Ref sig .tc := ⟨.hbm, 58, rfl⟩
abbrev main_while0b_c_29 : Ref sig .tc := ⟨.hbm, 59, rfl⟩
abbrev main_while0b_v12 : Ref sig .tc := ⟨.hbm, 60, rfl⟩
abbrev main_while0b_v13 : Ref sig .tc := ⟨.hbm, 61, rfl⟩
abbrev main_while0b_c_30 : Ref sig .tc := ⟨.hbm, 62, rfl⟩
abbrev main_while0b_v14 : Ref sig .tc := ⟨.hbm, 63, rfl⟩
abbrev main_while0b_v15 : Ref sig .tc := ⟨.hbm, 64, rfl⟩
abbrev main_while0b_c_31 : Ref sig .tc := ⟨.hbm, 65, rfl⟩
abbrev main_while0b_c_32 : Ref sig .tc := ⟨.hbm, 66, rfl⟩
abbrev main_while0b_c_33 : Ref sig .tc := ⟨.hbm, 67, rfl⟩
abbrev main_while0b_v16 : Ref sig .tc := ⟨.hbm, 68, rfl⟩
abbrev main_while0b_v17 : Ref sig .tc := ⟨.hbm, 69, rfl⟩
abbrev main_while0b_v18 : Ref sig .tc := ⟨.hbm, 70, rfl⟩
abbrev main_while0b_v19 : Ref sig .tc := ⟨.hbm, 71, rfl⟩
abbrev main_while0b_v20 : Ref sig .tc := ⟨.hbm, 72, rfl⟩
abbrev main_while0b_c_34 : Ref sig .tc := ⟨.hbm, 73, rfl⟩
abbrev main_while0b_v21 : Ref sig .tc := ⟨.hbm, 74, rfl⟩
abbrev main_while0b_v22 : Ref sig .tc := ⟨.hbm, 75, rfl⟩
abbrev main_while0b_c_35 : Ref sig .tc := ⟨.hbm, 76, rfl⟩
abbrev main_while0b_v23 : Ref sig .tc := ⟨.hbm, 77, rfl⟩
abbrev main_while0b_v24 : Ref sig .tc := ⟨.hbm, 78, rfl⟩
abbrev main_while0b_v25 : Ref sig .tc := ⟨.hbm, 79, rfl⟩
abbrev main_while0b_v26 : Ref sig .tc := ⟨.hbm, 80, rfl⟩
abbrev main_while0b_v27 : Ref sig .tc := ⟨.hbm, 81, rfl⟩
abbrev main_while0b_v28 : Ref sig .tc := ⟨.hbm, 82, rfl⟩
abbrev main_while0b_v29 : Ref sig .tc := ⟨.hbm, 83, rfl⟩
abbrev main_while0b_cst_36 : Ref sig .tc := ⟨.hbm, 84, rfl⟩
abbrev main_while0b_v30 : Ref sig .tc := ⟨.hbm, 85, rfl⟩
abbrev main_while0b_c_37 : Ref sig .tc := ⟨.hbm, 86, rfl⟩
abbrev main_while0b_v31 : Ref sig .tc := ⟨.hbm, 87, rfl⟩
abbrev main_while0b_v32 : Ref sig .tc := ⟨.hbm, 88, rfl⟩
abbrev main_while0b_c_38 : Ref sig .tc := ⟨.hbm, 89, rfl⟩
abbrev main_while0b_v33 : Ref sig .tc := ⟨.hbm, 90, rfl⟩
abbrev main_while0b_v34 : Ref sig .tc := ⟨.hbm, 91, rfl⟩
abbrev main_while0b_v35 : Ref sig .tc := ⟨.hbm, 92, rfl⟩
abbrev main_while0b_v36 : Ref sig .tc := ⟨.hbm, 93, rfl⟩
abbrev main_while0b_v37 : Ref sig .tc := ⟨.hbm, 94, rfl⟩
abbrev main_while0b_v38 : Ref sig .tc := ⟨.hbm, 95, rfl⟩
abbrev main_while0b_v39 : Ref sig .tc := ⟨.hbm, 96, rfl⟩
abbrev main_while0b_v40 : Ref sig .tc := ⟨.hbm, 97, rfl⟩
abbrev main_while0b_v41 : Ref sig .tc := ⟨.hbm, 98, rfl⟩
abbrev main_while0b_v42 : Ref sig .tc := ⟨.hbm, 99, rfl⟩
abbrev main_while0b_v43 : Ref sig .tc := ⟨.hbm, 100, rfl⟩
abbrev main_while0b_v44 : Ref sig .tc := ⟨.hbm, 101, rfl⟩
abbrev main_while0b_v45 : Ref sig .tc := ⟨.hbm, 102, rfl⟩
abbrev main_while0b_cst_39 : Ref sig .tc := ⟨.hbm, 103, rfl⟩
abbrev main_while0b_v46 : Ref sig .tc := ⟨.hbm, 104, rfl⟩
abbrev main_while0b_v47 : Ref sig .tc := ⟨.hbm, 105, rfl⟩
abbrev main_while0b_cst_40 : Ref sig .tc := ⟨.hbm, 106, rfl⟩
abbrev main_while0b_v48 : Ref sig .tc := ⟨.hbm, 107, rfl⟩
abbrev main_while0b_v49 : Ref sig .tc := ⟨.hbm, 108, rfl⟩
abbrev main_while0b_v50 : Ref sig .tc := ⟨.hbm, 109, rfl⟩
abbrev main_while0b_v51 : Ref sig .tc := ⟨.hbm, 110, rfl⟩
abbrev main_while0b_v52 : Ref sig .tc := ⟨.hbm, 111, rfl⟩
abbrev main_while0b_v53 : Ref sig .tc := ⟨.hbm, 112, rfl⟩
abbrev main_while0b_v54 : Ref sig .tc := ⟨.hbm, 113, rfl⟩
abbrev main_while0b_v55 : Ref sig .tc := ⟨.hbm, 114, rfl⟩
abbrev main_while0b_v56 : Ref sig .tc := ⟨.hbm, 115, rfl⟩
abbrev main_while0b_v57 : Ref sig .tc := ⟨.hbm, 116, rfl⟩
abbrev main_while0b_v58 : Ref sig .tc := ⟨.hbm, 117, rfl⟩
abbrev main_while0b_v59 : Ref sig .tc := ⟨.hbm, 118, rfl⟩
abbrev main_while0b_v60 : Ref sig .tc := ⟨.hbm, 119, rfl⟩
abbrev main_while0b_v61 : Ref sig .tc := ⟨.hbm, 120, rfl⟩
abbrev main_while0b_v62 : Ref sig .tc := ⟨.hbm, 121, rfl⟩
abbrev main_while0b_v63 : Ref sig .tc := ⟨.hbm, 122, rfl⟩
abbrev main_while0b_v64 : Ref sig .tc := ⟨.hbm, 123, rfl⟩
abbrev main_while0b_v65 : Ref sig .tc := ⟨.hbm, 124, rfl⟩
abbrev main_while0b_v66 : Ref sig .tc := ⟨.hbm, 125, rfl⟩
abbrev main_while0b_v67 : Ref sig .tc := ⟨.hbm, 126, rfl⟩
abbrev main_while0b_cst_41 : Ref sig .tc := ⟨.hbm, 127, rfl⟩
abbrev main_while0b_v68 : Ref sig .tc := ⟨.hbm, 128, rfl⟩
abbrev main_while0b_v69 : Ref sig .tc := ⟨.hbm, 129, rfl⟩
abbrev main_while0b_cst_42 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_cst_43 : Ref sig .tc := ⟨.hbm, 136, rfl⟩
abbrev main_while0b_v75 : Ref sig .tc := ⟨.hbm, 137, rfl⟩
abbrev main_while0b_v76 : Ref sig .tc := ⟨.hbm, 138, rfl⟩
abbrev main_while0b_cst_44 : Ref sig .tc := ⟨.hbm, 139, rfl⟩
abbrev main_while0b_v77 : Ref sig .tc := ⟨.hbm, 140, rfl⟩
abbrev main_while0b_v78 : Ref sig .tc := ⟨.hbm, 141, rfl⟩
abbrev main_while0b_v79 : Ref sig .tc := ⟨.hbm, 142, rfl⟩
abbrev main_while0b_v80 : Ref sig .tc := ⟨.hbm, 143, rfl⟩
abbrev main_while0b_v81 : Ref sig .tc := ⟨.hbm, 144, rfl⟩
abbrev main_while0b_cst_45 : Ref sig .tc := ⟨.hbm, 145, rfl⟩
abbrev main_while0b_v82 : Ref sig .tc := ⟨.hbm, 146, rfl⟩
abbrev main_while0b_v83 : Ref sig .tc := ⟨.hbm, 147, rfl⟩
abbrev main_while0b_v84 : Ref sig .tc := ⟨.hbm, 148, rfl⟩
abbrev main_while0b_v85 : Ref sig .tc := ⟨.hbm, 149, rfl⟩
abbrev main_while0b_v86 : Ref sig .tc := ⟨.hbm, 150, rfl⟩
abbrev main_while0b_v87 : Ref sig .tc := ⟨.hbm, 151, rfl⟩
abbrev main_while0b_v88 : Ref sig .tc := ⟨.hbm, 152, rfl⟩
abbrev main_while0b_v89 : Ref sig .tc := ⟨.hbm, 153, rfl⟩
abbrev main_while0b_v90 : Ref sig .tc := ⟨.hbm, 154, rfl⟩
abbrev main_while0b_v91 : Ref sig .tc := ⟨.hbm, 155, rfl⟩
abbrev main_while0b_v92 : Ref sig .tc := ⟨.hbm, 156, rfl⟩
abbrev main_while0b_v93 : Ref sig .tc := ⟨.hbm, 157, rfl⟩
abbrev main_while0b_v94 : Ref sig .tc := ⟨.hbm, 158, rfl⟩
abbrev main_while0b_v95 : Ref sig .tc := ⟨.hbm, 159, rfl⟩
abbrev main_while0b_v96 : Ref sig .tc := ⟨.hbm, 160, rfl⟩
abbrev main_while0b_v97 : Ref sig .tc := ⟨.hbm, 161, rfl⟩
abbrev main_while0b_c_46 : Ref sig .tc := ⟨.hbm, 162, rfl⟩
abbrev main_while0b_v98 : Ref sig .tc := ⟨.hbm, 163, rfl⟩

abbrev nD : Nat := 1
abbrev τ : Topo := Topo.v7x

variable {F : FTy → Type} [FloatOps F]

abbrev main_while0_count : Scf.Loop 32 := ⟨0#32, 24#32, 1#32⟩
-- ==== Proof.KStep.lean ====
/- What the body leaves in its two output blocks and its three scratch buffers, as the printed payloads of the blocks and
   of the scratch it found: one set of definitions (`kGi` … `kXn`) for the first point, which starts from the
   adjacency, the zero state and the zero column, and for the other points, which start from the scratch. -/
module

public import proofs.«01_k».proof.Proof.Gen.KernelIdeal.Value

@[expose] public section

set_option maxRecDepth 16384

noncomputable section

namespace Cert.Proof.KStep

open Cert.KernelIdeal Cert.KernelIdeal.Gen Cert.KernelIdeal.Value Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The rows a point reads and writes in the two carried states start at row zero: the grid's second coordinate is zero. -/
theorem hoff1 (i : grid0.Coords) : k0_off1 i = fun _ => 0 := by
  have h : (i 1).val = 0 := by have := (i 1).isLt; change (i 1).val < 1 at this; omega
  unfold k0_off1
  rw [h]
  funext a
  fin_cases a <;> decide
theorem hoff2 (i : grid0.Coords) : k0_off2 i = fun _ => 0 := hoff1 i

/-- A load of a whole buffer after one store of the whole buffer reads what was stored, wherever the two name row zero. -/
theorem rc {S : Shape} {e : EltTy} {κ : Kind} {sp : Space} (v : View sig κ sp S e) {off off' : Fin S.rank → Nat}
    (h : off = fun _ => 0) (h' : off' = fun _ => 0) (inb : ∀ a, off a + S.size a ≤ S.size a)
    (inb' : ∀ a, off' a + S.size a ≤ S.size a) (w : S.Idx → Elt F e) :
    v.readCov [(⟨Rect.unit off S.size inb, w⟩ : View.Piece (Elt F) S e)] (Rect.unit off' S.size inb').toLoadRect = w := by
  subst h; subst h'; exact View.readCov_unit_zero v rfl inb w

/-- One store of the whole buffer leaves what was stored, whatever the buffer held. -/
theorem rw1 {S : Shape} {e : EltTy} {κ : Kind} {sp : Space} (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- The zero accumulator of the per-graph products. -/
abbrev z0 : FVec F S184x64 .f32 := constant S184x64 .f32 0x00000000#32

/-- The input gates before their biases: 192 columns per row. -/
def kGi (A : Vec F S184x184 .bf16) (xn : Vec F S5888x29 .bf16)
    (x0 : Vec F S32x1x184x29 .bf16) (x4 x5 : Vec F S29x64 .bf16) (x6 : Vec F S1x64 .f32) (x7 : Vec F S29x192 .bf16) (x8 : Vec F S64x192 .bf16) : FVec F S5888x192 .f32 :=
  k0_pay38 (k0_pay7 x0 xn) A (k0_pay8 x0 xn x4)
    (k0_pay9 x0 xn A x4) (k0_pay10 x0 xn A x4) (k0_pay11 x0 xn A x4) (k0_pay12 x0 xn A x4)
    (k0_pay13 x0 xn A x4) (k0_pay14 x0 xn A x4) (k0_pay15 x0 xn A x4) (k0_pay17 A (k0_pay16 x0 xn x4) z0)
    (k0_pay18 A (k0_pay8 x0 xn x4)) (k0_pay19 A (k0_pay8 x0 xn x4)) (k0_pay20 A (k0_pay8 x0 xn x4)) (k0_pay21 A (k0_pay8 x0 xn x4))
    (k0_pay22 A (k0_pay8 x0 xn x4)) (k0_pay23 A (k0_pay8 x0 xn x4)) (k0_pay24 A (k0_pay8 x0 xn x4)) (k0_pay25 A (k0_pay8 x0 xn x4))
    (k0_pay26 A (k0_pay8 x0 xn x4)) (k0_pay27 A (k0_pay8 x0 xn x4)) (k0_pay28 A (k0_pay8 x0 xn x4)) (k0_pay29 A (k0_pay8 x0 xn x4))
    (k0_pay30 A (k0_pay8 x0 xn x4)) (k0_pay31 A (k0_pay8 x0 xn x4)) (k0_pay32 A (k0_pay8 x0 xn x4)) (k0_pay33 A (k0_pay8 x0 xn x4))
    (k0_pay34 A (k0_pay8 x0 xn x4)) (k0_pay35 A (k0_pay8 x0 xn x4)) (k0_pay36 A (k0_pay8 x0 xn x4)) (k0_pay37 (k0_pay8 x0 xn x4))
    z0
    x5 x6 x7 x8

/-- The first 128 columns of the input gates. -/
def kGi128 (A : Vec F S184x184 .bf16) (xn : Vec F S5888x29 .bf16)
    (x0 : Vec F S32x1x184x29 .bf16) (x4 x5 : Vec F S29x64 .bf16) (x6 : Vec F S1x64 .f32) (x7 : Vec F S29x192 .bf16) (x8 : Vec F S64x192 .bf16) : FVec F S5888x128 .f32 :=
  k0_pay40 (k0_pay7 x0 xn) A (k0_pay8 x0 xn x4)
    (k0_pay9 x0 xn A x4) (k0_pay10 x0 xn A x4) (k0_pay11 x0 xn A x4) (k0_pay12 x0 xn A x4)
    (k0_pay13 x0 xn A x4) (k0_pay14 x0 xn A x4) (k0_pay15 x0 xn A x4) (k0_pay17 A (k0_pay16 x0 xn x4) z0)
    (k0_pay18 A (k0_pay8 x0 xn x4)) (k0_pay19 A (k0_pay8 x0 xn x4)) (k0_pay20 A (k0_pay8 x0 xn x4)) (k0_pay21 A (k0_pay8 x0 xn x4))
    (k0_pay22 A (k0_pay8 x0 xn x4)) (k0_pay23 A (k0_pay8 x0 xn x4)) (k0_pay24 A (k0_pay8 x0 xn x4)) (k0_pay25 A (k0_pay8 x0 xn x4))
    (k0_pay26 A (k0_pay8 x0 xn x4)) (k0_pay27 A (k0_pay8 x0 xn x4)) (k0_pay28 A (k0_pay8 x0 xn x4)) (k0_pay29 A (k0_pay8 x0 xn x4))
    (k0_pay30 A (k0_pay8 x0 xn x4)) (k0_pay31 A (k0_pay8 x0 xn x4)) (k0_pay32 A (k0_pay8 x0 xn x4)) (k0_pay33 A (k0_pay8 x0 xn x4))
    (k0_pay34 A (k0_pay8 x0 xn x4)) (k0_pay35 A (k0_pay8 x0 xn x4)) (k0_pay36 A (k0_pay8 x0 xn x4)) (k0_pay37 (k0_pay8 x0 xn x4))
    z0
    x5 x6 x7 x8

/-- The new state. -/
def kH (A : Vec F S184x184 .bf16) (h : Vec F S5888x64 .f32) (xn : Vec F S5888x29 .bf16)
    (x0 : Vec F S32x1x184x29 .bf16) (x4 x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32) : FVec F S5888x64 .f32 :=
  k0_pay42 h (kGi A xn x0 x4 x5 x6 x7 x8) (k0_pay39 h x10) (kGi128 A xn x0 x4 x5 x6 x7 x8) (k0_pay41 h x10)
    (View.ld x9 (Rect.unit ![0, 0] S1x128.size inb_S1x192_S1x128_0_0))
    (View.ld x9 (Rect.unit ![0, 128] S1x64.size inb_S1x192_S1x64_0_128))
    (View.ld x11 (Rect.unit ![0, 128] S1x64.size inb_S1x192_S1x64_0_128))

/-- The new column, before its cast. -/
def kY (A : Vec F S184x184 .bf16) (h : Vec F S5888x64 .f32) (xn : Vec F S5888x29 .bf16)
    (x0 : Vec F S32x1x184x29 .bf16) (x4 x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32)
    (x12 : Vec F S64x29 .bf16) : FVec F S5888x29 .f32 :=
  k0_pay43 h (kGi A xn x0 x4 x5 x6 x7 x8) (k0_pay39 h x10) (kGi128 A xn x0 x4 x5 x6 x7 x8) (k0_pay41 h x10)
    (View.ld x9 (Rect.unit ![0, 0] S1x128.size inb_S1x192_S1x128_0_0))
    (View.ld x9 (Rect.unit ![0, 128] S1x64.size inb_S1x192_S1x64_0_128))
    (View.ld x11 (Rect.unit ![0, 128] S1x64.size inb_S1x192_S1x64_0_128)) x12

/-- The new column as the scratch holds it. -/
def kXn (A : Vec F S184x184 .bf16) (h : Vec F S5888x64 .f32) (xn : Vec F S5888x29 .bf16)
    (x0 : Vec F S32x1x184x29 .bf16) (x4 x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32)
    (x12 : Vec F S64x29 .bf16) : FVec F S5888x29 .bf16 :=
  k0_pay45 h (kGi A xn x0 x4 x5 x6 x7 x8) (k0_pay39 h x10) (kGi128 A xn x0 x4 x5 x6 x7 x8) (k0_pay41 h x10)
    (View.ld x9 (Rect.unit ![0, 0] S1x128.size inb_S1x192_S1x128_0_0))
    (View.ld x9 (Rect.unit ![0, 128] S1x64.size inb_S1x192_S1x64_0_128))
    (View.ld x11 (Rect.unit ![0, 128] S1x64.size inb_S1x192_S1x64_0_128)) x12

set_option backward.isDefEq.respectTransparency false in
theorem out0_A_14_eq (c : Dev nD) (i : grid0.Coords)
    (a2 : Memref sig .tc .vmem S32x1x184x29 .bf16) (h2 : a2.IsWhole) (a3 : Memref sig .tc .vmem S1x3712 .i32)
    (h3 : a3.IsWhole) (a4 : Memref sig .tc .vmem S3712x1 .i32) (h4 : a4.IsWhole)
    (a5 : Memref sig .tc .vmem S3712x1 .f32) (h5 : a5.IsWhole) (a6 : Memref sig .tc .vmem S29x64 .bf16)
    (h6 : a6.IsWhole) (a7 : Memref sig .tc .vmem S29x64 .bf16) (h7 : a7.IsWhole)
    (a8 : Memref sig .tc .vmem S1x64 .f32) (h8 : a8.IsWhole) (a9 : Memref sig .tc .vmem S29x192 .bf16)
    (h9 : a9.IsWhole) (a10 : Memref sig .tc .vmem S64x192 .bf16) (h10 : a10.IsWhole)
    (a11 : Memref sig .tc .vmem S1x192 .f32) (h11 : a11.IsWhole) (a12 : Memref sig .tc .vmem S64x192 .bf16)
    (h12 : a12.IsWhole) (a13 : Memref sig .tc .vmem S1x192 .f32) (h13 : a13.IsWhole)
    (a14 : Memref sig .tc .vmem S64x29 .bf16) (h14 : a14.IsWhole) (a15 : Memref sig .tc .vmem S1x1 .f32)
    (h15 : a15.IsWhole) (a16 : Memref sig .tc .vmem S32x1x184x64 .f32) (h16 : a16.IsWhole)
    (a17 : Memref sig .tc .vmem S32x1x184x1 .f32) (h17 : a17.IsWhole) (a18 : Memref sig .tc .vmem S184x184 .bf16)
    (h18 : a18.IsWhole) (a19 : Memref sig .tc .vmem S5888x64 .f32) (h19 : a19.IsWhole)
    (a20 : Memref sig .tc .vmem S5888x29 .bf16) (h20 : a20.IsWhole)
    (hc : cond0_0 i)
    (x0 : Vec F S32x1x184x29 .bf16) (x1 : Vec F S1x3712 .i32) (x2 : Vec F S3712x1 .i32) (x3 : Vec F S3712x1 .f32)
    (x4 : Vec F S29x64 .bf16) (x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32)
    (x12 : Vec F S64x29 .bf16) (x13 : Vec F S1x1 .f32) :
    out0_A_14 c i a2 h2 a3 h3 a4 h4 a5 h5 a6 h6 a7 h7 a8 h8 a9 h9 a10 h10 a11 h11 a12 h12 a13 h13 a14 h14 a15 h15 a16
    h16 a17 h17 a18 h18 a19 h19 a20 h20 hc x0 x1 x2 x3 x4 x5 x6 x7 x8 x9 x10 x11 x12 x13
      = k0_pay2 (kH (k0_pay4 x1 x2 x3) k0_pay5 k0_pay6 x0 x4 x5 x6 x7 x8 x9 x10 x11) := by
  unfold out0_A_14
  rw [View.read_writes_eq_canon _ _ _
  (cover0_A_14 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 x13)
  ]
  unfold kernelRun0_A
  dsimp only
  sl_unfold_words
  have ho1 := hoff1 i
  have ho2 := hoff2 i
  unfold k0_off1 at ho1
  unfold k0_off2 at ho2
  dsimp only at ho1 ho2
  simp only [View.canon_cons_unit_zero (S := S5888x29) ho1, View.canon_cons_unit_zero (S := S5888x64) ho2,
    View.canon_unit_zero (S := S184x184) hz2, View.canon_unit_zero (S := S32x1x184x64) hz4,
    View.canon_unit_zero (S := S32x1x184x1) hz4, rw1 (S := S5888x64) _ _ ho2, rw1 (S := S5888x29) _ _ ho1,
    rw1 (S := S184x184) _ _ hz2, rw1 (S := S5888x64) _ _ hz2, rw1 (S := S5888x29) _ _ hz2,
    rc (S := S5888x64) _ hz2 ho2, rc (S := S5888x29) _ hz2 ho1, rc (S := S184x184) _ hz2 hz2,
    View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, h20.read_unread, View.ld_unit_zero (S := S5888x29) ho1, View.ld_unit_zero (S := S5888x64) ho2,
    View.ld_unit_zero (S := S32x1x184x29) hz4, View.ld_unit_zero (S := S184x184) hz2, View.ld_unit_zero (S := S1x3712) hz2, View.ld_unit_zero (S := S3712x1) hz2, View.ld_unit_zero (S := S29x64) hz2, View.ld_unit_zero (S := S1x64) hz2, View.ld_unit_zero (S := S29x192) hz2, View.ld_unit_zero (S := S64x192) hz2, View.ld_unit_zero (S := S64x29) hz2, View.ld_unit_zero (S := S1x1) hz2, View.ld_unit_zero (S := S5888x64) hz2, View.ld_unit_zero (S := S5888x29) hz2]
  rfl

set_option backward.isDefEq.respectTransparency false in
theorem out0_A_15_eq (c : Dev nD) (i : grid0.Coords)
    (a2 : Memref sig .tc .vmem S32x1x184x29 .bf16) (h2 : a2.IsWhole) (a3 : Memref sig .tc .vmem S1x3712 .i32)
    (h3 : a3.IsWhole) (a4 : Memref sig .tc .vmem S3712x1 .i32) (h4 : a4.IsWhole)
    (a5 : Memref sig .tc .vmem S3712x1 .f32) (h5 : a5.IsWhole) (a6 : Memref sig .tc .vmem S29x64 .bf16)
    (h6 : a6.IsWhole) (a7 : Memref sig .tc .vmem S29x64 .bf16) (h7 : a7.IsWhole)
    (a8 : Memref sig .tc .vmem S1x64 .f32) (h8 : a8.IsWhole) (a9 : Memref sig .tc .vmem S29x192 .bf16)
    (h9 : a9.IsWhole) (a10 : Memref sig .tc .vmem S64x192 .bf16) (h10 : a10.IsWhole)
    (a11 : Memref sig .tc .vmem S1x192 .f32) (h11 : a11.IsWhole) (a12 : Memref sig .tc .vmem S64x192 .bf16)
    (h12 : a12.IsWhole) (a13 : Memref sig .tc .vmem S1x192 .f32) (h13 : a13.IsWhole)
    (a14 : Memref sig .tc .vmem S64x29 .bf16) (h14 : a14.IsWhole) (a15 : Memref sig .tc .vmem S1x1 .f32)
    (h15 : a15.IsWhole) (a16 : Memref sig .tc .vmem S32x1x184x64 .f32) (h16 : a16.IsWhole)
    (a17 : Memref sig .tc .vmem S32x1x184x1 .f32) (h17 : a17.IsWhole) (a18 : Memref sig .tc .vmem S184x184 .bf16)
    (h18 : a18.IsWhole) (a19 : Memref sig .tc .vmem S5888x64 .f32) (h19 : a19.IsWhole)
    (a20 : Memref sig .tc .vmem S5888x29 .bf16) (h20 : a20.IsWhole)
    (hc : cond0_0 i)
    (x0 : Vec F S32x1x184x29 .bf16) (x1 : Vec F S1x3712 .i32) (x2 : Vec F S3712x1 .i32) (x3 : Vec F S3712x1 .f32)
    (x4 : Vec F S29x64 .bf16) (x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32)
    (x12 : Vec F S64x29 .bf16) (x13 : Vec F S1x1 .f32) :
    out0_A_15 c i a2 h2 a3 h3 a4 h4 a5 h5 a6 h6 a7 h7 a8 h8 a9 h9 a10 h10 a11 h11 a12 h12 a13 h13 a14 h14 a15 h15 a16
    h16 a17 h17 a18 h18 a19 h19 a20 h20 hc x0 x1 x2 x3 x4 x5 x6 x7 x8 x9 x10 x11 x12 x13
      = k0_pay3 (kY (k0_pay4 x1 x2 x3) k0_pay5 k0_pay6 x0 x4 x5 x6 x7 x8 x9 x10 x11 x12) x13 := by
  unfold out0_A_15
  rw [View.read_writes_eq_canon _ _ _
  (cover0_A_15 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 x13)
  ]
  unfold kernelRun0_A
  dsimp only
  sl_unfold_words
  have ho1 := hoff1 i
  have ho2 := hoff2 i
  unfold k0_off1 at ho1
  unfold k0_off2 at ho2
  dsimp only at ho1 ho2
  simp only [View.canon_cons_unit_zero (S := S5888x29) ho1, View.canon_cons_unit_zero (S := S5888x64) ho2,
    View.canon_unit_zero (S := S184x184) hz2, View.canon_unit_zero (S := S32x1x184x64) hz4,
    View.canon_unit_zero (S := S32x1x184x1) hz4, rw1 (S := S5888x64) _ _ ho2, rw1 (S := S5888x29) _ _ ho1,
    rw1 (S := S184x184) _ _ hz2, rw1 (S := S5888x64) _ _ hz2, rw1 (S := S5888x29) _ _ hz2,
    rc (S := S5888x64) _ hz2 ho2, rc (S := S5888x29) _ hz2 ho1, rc (S := S184x184) _ hz2 hz2,
    View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, h20.read_unread, View.ld_unit_zero (S := S5888x29) ho1, View.ld_unit_zero (S := S5888x64) ho2,
    View.ld_unit_zero (S := S32x1x184x29) hz4, View.ld_unit_zero (S := S184x184) hz2, View.ld_unit_zero (S := S1x3712) hz2, View.ld_unit_zero (S := S3712x1) hz2, View.ld_unit_zero (S := S29x64) hz2, View.ld_unit_zero (S := S1x64) hz2, View.ld_unit_zero (S := S29x192) hz2, View.ld_unit_zero (S := S64x192) hz2, View.ld_unit_zero (S := S64x29) hz2, View.ld_unit_zero (S := S1x1) hz2, View.ld_unit_zero (S := S5888x64) hz2, View.ld_unit_zero (S := S5888x29) hz2]
  rfl

set_option backward.isDefEq.respectTransparency false in
theorem sout0_A_0_eq (c : Dev nD) (i : grid0.Coords)
    (a2 : Memref sig .tc .vmem S32x1x184x29 .bf16) (h2 : a2.IsWhole) (a3 : Memref sig .tc .vmem S1x3712 .i32)
    (h3 : a3.IsWhole) (a4 : Memref sig .tc .vmem S3712x1 .i32) (h4 : a4.IsWhole)
    (a5 : Memref sig .tc .vmem S3712x1 .f32) (h5 : a5.IsWhole) (a6 : Memref sig .tc .vmem S29x64 .bf16)
    (h6 : a6.IsWhole) (a7 : Memref sig .tc .vmem S29x64 .bf16) (h7 : a7.IsWhole)
    (a8 : Memref sig .tc .vmem S1x64 .f32) (h8 : a8.IsWhole) (a9 : Memref sig .tc .vmem S29x192 .bf16)
    (h9 : a9.IsWhole) (a10 : Memref sig .tc .vmem S64x192 .bf16) (h10 : a10.IsWhole)
    (a11 : Memref sig .tc .vmem S1x192 .f32) (h11 : a11.IsWhole) (a12 : Memref sig .tc .vmem S64x192 .bf16)
    (h12 : a12.IsWhole) (a13 : Memref sig .tc .vmem S1x192 .f32) (h13 : a13.IsWhole)
    (a14 : Memref sig .tc .vmem S64x29 .bf16) (h14 : a14.IsWhole) (a15 : Memref sig .tc .vmem S1x1 .f32)
    (h15 : a15.IsWhole) (a16 : Memref sig .tc .vmem S32x1x184x64 .f32) (h16 : a16.IsWhole)
    (a17 : Memref sig .tc .vmem S32x1x184x1 .f32) (h17 : a17.IsWhole) (a18 : Memref sig .tc .vmem S184x184 .bf16)
    (h18 : a18.IsWhole) (a19 : Memref sig .tc .vmem S5888x64 .f32) (h19 : a19.IsWhole)
    (a20 : Memref sig .tc .vmem S5888x29 .bf16) (h20 : a20.IsWhole)
    (hc : cond0_0 i)
    (x0 : Vec F S32x1x184x29 .bf16) (x1 : Vec F S1x3712 .i32) (x2 : Vec F S3712x1 .i32) (x3 : Vec F S3712x1 .f32)
    (x4 : Vec F S29x64 .bf16) (x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32)
    (x12 : Vec F S64x29 .bf16) (x13 : Vec F S1x1 .f32) :
    sout0_A_0 c i a2 h2 a3 h3 a4 h4 a5 h5 a6 h6 a7 h7 a8 h8 a9 h9 a10 h10 a11 h11 a12 h12 a13 h13 a14 h14 a15 h15 a16
    h16 a17 h17 a18 h18 a19 h19 a20 h20 hc x0 x1 x2 x3 x4 x5 x6 x7 x8 x9 x10 x11 x12 x13
      = k0_pay4 x1 x2 x3 := by
  unfold sout0_A_0
  rw [View.read_writes_eq_canon _ _ _
  (scover0_A_0 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 x13)
  ]
  unfold kernelRun0_A
  dsimp only
  sl_unfold_words
  have ho1 := hoff1 i
  have ho2 := hoff2 i
  unfold k0_off1 at ho1
  unfold k0_off2 at ho2
  dsimp only at ho1 ho2
  simp only [View.canon_cons_unit_zero (S := S5888x29) ho1, View.canon_cons_unit_zero (S := S5888x64) ho2,
    View.canon_unit_zero (S := S184x184) hz2, View.canon_unit_zero (S := S32x1x184x64) hz4,
    View.canon_unit_zero (S := S32x1x184x1) hz4, rw1 (S := S5888x64) _ _ ho2, rw1 (S := S5888x29) _ _ ho1,
    rw1 (S := S184x184) _ _ hz2, rw1 (S := S5888x64) _ _ hz2, rw1 (S := S5888x29) _ _ hz2,
    rc (S := S5888x64) _ hz2 ho2, rc (S := S5888x29) _ hz2 ho1, rc (S := S184x184) _ hz2 hz2,
    View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, h20.read_unread, View.ld_unit_zero (S := S5888x29) ho1, View.ld_unit_zero (S := S5888x64) ho2,
    View.ld_unit_zero (S := S32x1x184x29) hz4, View.ld_unit_zero (S := S184x184) hz2, View.ld_unit_zero (S := S1x3712) hz2, View.ld_unit_zero (S := S3712x1) hz2, View.ld_unit_zero (S := S29x64) hz2, View.ld_unit_zero (S := S1x64) hz2, View.ld_unit_zero (S := S29x192) hz2, View.ld_unit_zero (S := S64x192) hz2, View.ld_unit_zero (S := S64x29) hz2, View.ld_unit_zero (S := S1x1) hz2, View.ld_unit_zero (S := S5888x64) hz2, View.ld_unit_zero (S := S5888x29) hz2]

set_option backward.isDefEq.respectTransparency false in
theorem sout0_A_1_eq (c : Dev nD) (i : grid0.Coords)
    (a2 : Memref sig .tc .vmem S32x1x184x29 .bf16) (h2 : a2.IsWhole) (a3 : Memref sig .tc .vmem S1x3712 .i32)
    (h3 : a3.IsWhole) (a4 : Memref sig .tc .vmem S3712x1 .i32) (h4 : a4.IsWhole)
    (a5 : Memref sig .tc .vmem S3712x1 .f32) (h5 : a5.IsWhole) (a6 : Memref sig .tc .vmem S29x64 .bf16)
    (h6 : a6.IsWhole) (a7 : Memref sig .tc .vmem S29x64 .bf16) (h7 : a7.IsWhole)
    (a8 : Memref sig .tc .vmem S1x64 .f32) (h8 : a8.IsWhole) (a9 : Memref sig .tc .vmem S29x192 .bf16)
    (h9 : a9.IsWhole) (a10 : Memref sig .tc .vmem S64x192 .bf16) (h10 : a10.IsWhole)
    (a11 : Memref sig .tc .vmem S1x192 .f32) (h11 : a11.IsWhole) (a12 : Memref sig .tc .vmem S64x192 .bf16)
    (h12 : a12.IsWhole) (a13 : Memref sig .tc .vmem S1x192 .f32) (h13 : a13.IsWhole)
    (a14 : Memref sig .tc .vmem S64x29 .bf16) (h14 : a14.IsWhole) (a15 : Memref sig .tc .vmem S1x1 .f32)
    (h15 : a15.IsWhole) (a16 : Memref sig .tc .vmem S32x1x184x64 .f32) (h16 : a16.IsWhole)
    (a17 : Memref sig .tc .vmem S32x1x184x1 .f32) (h17 : a17.IsWhole) (a18 : Memref sig .tc .vmem S184x184 .bf16)
    (h18 : a18.IsWhole) (a19 : Memref sig .tc .vmem S5888x64 .f32) (h19 : a19.IsWhole)
    (a20 : Memref sig .tc .vmem S5888x29 .bf16) (h20 : a20.IsWhole)
    (hc : cond0_0 i)
    (x0 : Vec F S32x1x184x29 .bf16) (x1 : Vec F S1x3712 .i32) (x2 : Vec F S3712x1 .i32) (x3 : Vec F S3712x1 .f32)
    (x4 : Vec F S29x64 .bf16) (x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32)
    (x12 : Vec F S64x29 .bf16) (x13 : Vec F S1x1 .f32) :
    sout0_A_1 c i a2 h2 a3 h3 a4 h4 a5 h5 a6 h6 a7 h7 a8 h8 a9 h9 a10 h10 a11 h11 a12 h12 a13 h13 a14 h14 a15 h15 a16
    h16 a17 h17 a18 h18 a19 h19 a20 h20 hc x0 x1 x2 x3 x4 x5 x6 x7 x8 x9 x10 x11 x12 x13
      = kH (k0_pay4 x1 x2 x3) k0_pay5 k0_pay6 x0 x4 x5 x6 x7 x8 x9 x10 x11 := by
  unfold sout0_A_1
  rw [View.read_writes_eq_canon _ _ _
  (scover0_A_1 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 x13)
  ]
  unfold kernelRun0_A
  dsimp only
  sl_unfold_words
  have ho1 := hoff1 i
  have ho2 := hoff2 i
  unfold k0_off1 at ho1
  unfold k0_off2 at ho2
  dsimp only at ho1 ho2
  simp only [View.canon_cons_unit_zero (S := S5888x29) ho1, View.canon_cons_unit_zero (S := S5888x64) ho2,
    View.canon_unit_zero (S := S184x184) hz2, View.canon_unit_zero (S := S32x1x184x64) hz4,
    View.canon_unit_zero (S := S32x1x184x1) hz4, rw1 (S := S5888x64) _ _ ho2, rw1 (S := S5888x29) _ _ ho1,
    rw1 (S := S184x184) _ _ hz2, rw1 (S := S5888x64) _ _ hz2, rw1 (S := S5888x29) _ _ hz2,
    rc (S := S5888x64) _ hz2 ho2, rc (S := S5888x29) _ hz2 ho1, rc (S := S184x184) _ hz2 hz2,
    View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, h20.read_unread, View.ld_unit_zero (S := S5888x29) ho1, View.ld_unit_zero (S := S5888x64) ho2,
    View.ld_unit_zero (S := S32x1x184x29) hz4, View.ld_unit_zero (S := S184x184) hz2, View.ld_unit_zero (S := S1x3712) hz2, View.ld_unit_zero (S := S3712x1) hz2, View.ld_unit_zero (S := S29x64) hz2, View.ld_unit_zero (S := S1x64) hz2, View.ld_unit_zero (S := S29x192) hz2, View.ld_unit_zero (S := S64x192) hz2, View.ld_unit_zero (S := S64x29) hz2, View.ld_unit_zero (S := S1x1) hz2, View.ld_unit_zero (S := S5888x64) hz2, View.ld_unit_zero (S := S5888x29) hz2]
  exact shapeCast_self _ _

set_option backward.isDefEq.respectTransparency false in
theorem sout0_A_2_eq (c : Dev nD) (i : grid0.Coords)
    (a2 : Memref sig .tc .vmem S32x1x184x29 .bf16) (h2 : a2.IsWhole) (a3 : Memref sig .tc .vmem S1x3712 .i32)
    (h3 : a3.IsWhole) (a4 : Memref sig .tc .vmem S3712x1 .i32) (h4 : a4.IsWhole)
    (a5 : Memref sig .tc .vmem S3712x1 .f32) (h5 : a5.IsWhole) (a6 : Memref sig .tc .vmem S29x64 .bf16)
    (h6 : a6.IsWhole) (a7 : Memref sig .tc .vmem S29x64 .bf16) (h7 : a7.IsWhole)
    (a8 : Memref sig .tc .vmem S1x64 .f32) (h8 : a8.IsWhole) (a9 : Memref sig .tc .vmem S29x192 .bf16)
    (h9 : a9.IsWhole) (a10 : Memref sig .tc .vmem S64x192 .bf16) (h10 : a10.IsWhole)
    (a11 : Memref sig .tc .vmem S1x192 .f32) (h11 : a11.IsWhole) (a12 : Memref sig .tc .vmem S64x192 .bf16)
    (h12 : a12.IsWhole) (a13 : Memref sig .tc .vmem S1x192 .f32) (h13 : a13.IsWhole)
    (a14 : Memref sig .tc .vmem S64x29 .bf16) (h14 : a14.IsWhole) (a15 : Memref sig .tc .vmem S1x1 .f32)
    (h15 : a15.IsWhole) (a16 : Memref sig .tc .vmem S32x1x184x64 .f32) (h16 : a16.IsWhole)
    (a17 : Memref sig .tc .vmem S32x1x184x1 .f32) (h17 : a17.IsWhole) (a18 : Memref sig .tc .vmem S184x184 .bf16)
    (h18 : a18.IsWhole) (a19 : Memref sig .tc .vmem S5888x64 .f32) (h19 : a19.IsWhole)
    (a20 : Memref sig .tc .vmem S5888x29 .bf16) (h20 : a20.IsWhole)
    (hc : cond0_0 i)
    (x0 : Vec F S32x1x184x29 .bf16) (x1 : Vec F S1x3712 .i32) (x2 : Vec F S3712x1 .i32) (x3 : Vec F S3712x1 .f32)
    (x4 : Vec F S29x64 .bf16) (x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32)
    (x12 : Vec F S64x29 .bf16) (x13 : Vec F S1x1 .f32) :
    sout0_A_2 c i a2 h2 a3 h3 a4 h4 a5 h5 a6 h6 a7 h7 a8 h8 a9 h9 a10 h10 a11 h11 a12 h12 a13 h13 a14 h14 a15 h15 a16
    h16 a17 h17 a18 h18 a19 h19 a20 h20 hc x0 x1 x2 x3 x4 x5 x6 x7 x8 x9 x10 x11 x12 x13
      = kXn (k0_pay4 x1 x2 x3) k0_pay5 k0_pay6 x0 x4 x5 x6 x7 x8 x9 x10 x11 x12 := by
  unfold sout0_A_2
  rw [View.read_writes_eq_canon _ _ _
  (scover0_A_2 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 x13)
  ]
  unfold kernelRun0_A
  dsimp only
  sl_unfold_words
  have ho1 := hoff1 i
  have ho2 := hoff2 i
  unfold k0_off1 at ho1
  unfold k0_off2 at ho2
  dsimp only at ho1 ho2
  simp only [View.canon_cons_unit_zero (S := S5888x29) ho1, View.canon_cons_unit_zero (S := S5888x64) ho2,
    View.canon_unit_zero (S := S184x184) hz2, View.canon_unit_zero (S := S32x1x184x64) hz4,
    View.canon_unit_zero (S := S32x1x184x1) hz4, rw1 (S := S5888x64) _ _ ho2, rw1 (S := S5888x29) _ _ ho1,
    rw1 (S := S184x184) _ _ hz2, rw1 (S := S5888x64) _ _ hz2, rw1 (S := S5888x29) _ _ hz2,
    rc (S := S5888x64) _ hz2 ho2, rc (S := S5888x29) _ hz2 ho1, rc (S := S184x184) _ hz2 hz2,
    View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, h20.read_unread, View.ld_unit_zero (S := S5888x29) ho1, View.ld_unit_zero (S := S5888x64) ho2,
    View.ld_unit_zero (S := S32x1x184x29) hz4, View.ld_unit_zero (S := S184x184) hz2, View.ld_unit_zero (S := S1x3712) hz2, View.ld_unit_zero (S := S3712x1) hz2, View.ld_unit_zero (S := S29x64) hz2, View.ld_unit_zero (S := S1x64) hz2, View.ld_unit_zero (S := S29x192) hz2, View.ld_unit_zero (S := S64x192) hz2, View.ld_unit_zero (S := S64x29) hz2, View.ld_unit_zero (S := S1x1) hz2, View.ld_unit_zero (S := S5888x64) hz2, View.ld_unit_zero (S := S5888x29) hz2]
  exact shapeCast_self _ _

set_option backward.isDefEq.respectTransparency false in
theorem out0_B_14_eq (c : Dev nD) (i : grid0.Coords)
    (a2 : Memref sig .tc .vmem S32x1x184x29 .bf16) (h2 : a2.IsWhole) (a3 : Memref sig .tc .vmem S1x3712 .i32)
    (h3 : a3.IsWhole) (a4 : Memref sig .tc .vmem S3712x1 .i32) (h4 : a4.IsWhole)
    (a5 : Memref sig .tc .vmem S3712x1 .f32) (h5 : a5.IsWhole) (a6 : Memref sig .tc .vmem S29x64 .bf16)
    (h6 : a6.IsWhole) (a7 : Memref sig .tc .vmem S29x64 .bf16) (h7 : a7.IsWhole)
    (a8 : Memref sig .tc .vmem S1x64 .f32) (h8 : a8.IsWhole) (a9 : Memref sig .tc .vmem S29x192 .bf16)
    (h9 : a9.IsWhole) (a10 : Memref sig .tc .vmem S64x192 .bf16) (h10 : a10.IsWhole)
    (a11 : Memref sig .tc .vmem S1x192 .f32) (h11 : a11.IsWhole) (a12 : Memref sig .tc .vmem S64x192 .bf16)
    (h12 : a12.IsWhole) (a13 : Memref sig .tc .vmem S1x192 .f32) (h13 : a13.IsWhole)
    (a14 : Memref sig .tc .vmem S64x29 .bf16) (h14 : a14.IsWhole) (a15 : Memref sig .tc .vmem S1x1 .f32)
    (h15 : a15.IsWhole) (a16 : Memref sig .tc .vmem S32x1x184x64 .f32) (h16 : a16.IsWhole)
    (a17 : Memref sig .tc .vmem S32x1x184x1 .f32) (h17 : a17.IsWhole) (a18 : Memref sig .tc .vmem S184x184 .bf16)
    (h18 : a18.IsWhole) (a19 : Memref sig .tc .vmem S5888x64 .f32) (h19 : a19.IsWhole)
    (a20 : Memref sig .tc .vmem S5888x29 .bf16) (h20 : a20.IsWhole)
    (hc : ¬cond0_0 i)
    (x0 : Vec F S32x1x184x29 .bf16) (x1 : Vec F S1x3712 .i32) (x2 : Vec F S3712x1 .i32) (x3 : Vec F S3712x1 .f32)
    (x4 : Vec F S29x64 .bf16) (x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32)
    (x12 : Vec F S64x29 .bf16) (x13 : Vec F S1x1 .f32) (xs0 : Vec F S184x184 .bf16) (xs1 : Vec F S5888x64 .f32)
    (xs2 : Vec F S5888x29 .bf16) :
    out0_B_14 c i a2 h2 a3 h3 a4 h4 a5 h5 a6 h6 a7 h7 a8 h8 a9 h9 a10 h10 a11 h11 a12 h12 a13 h13 a14 h14 a15 h15 a16
    h16 a17 h17 a18 h18 a19 h19 a20 h20 hc x0 x1 x2 x3 x4 x5 x6 x7 x8 x9 x10 x11 x12 x13 xs0 xs1 xs2
      = k0_pay2 (kH xs0 xs1 xs2 x0 x4 x5 x6 x7 x8 x9 x10 x11) := by
  unfold out0_B_14
  rw [View.read_writes_eq_canon _ _ _
  (cover0_B_14 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 x13 xs0 xs1 xs2)
  ]
  unfold kernelRun0_B
  dsimp only
  sl_unfold_words
  have ho1 := hoff1 i
  have ho2 := hoff2 i
  unfold k0_off1 at ho1
  unfold k0_off2 at ho2
  dsimp only at ho1 ho2
  simp only [View.canon_cons_unit_zero (S := S5888x29) ho1, View.canon_cons_unit_zero (S := S5888x64) ho2,
    View.canon_unit_zero (S := S184x184) hz2, View.canon_unit_zero (S := S32x1x184x64) hz4,
    View.canon_unit_zero (S := S32x1x184x1) hz4, rw1 (S := S5888x64) _ _ ho2, rw1 (S := S5888x29) _ _ ho1,
    rw1 (S := S184x184) _ _ hz2, rw1 (S := S5888x64) _ _ hz2, rw1 (S := S5888x29) _ _ hz2,
    rc (S := S5888x64) _ hz2 ho2, rc (S := S5888x29) _ hz2 ho1, rc (S := S184x184) _ hz2 hz2,
    View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, h20.read_unread, View.ld_unit_zero (S := S5888x29) ho1, View.ld_unit_zero (S := S5888x64) ho2,
    View.ld_unit_zero (S := S32x1x184x29) hz4, View.ld_unit_zero (S := S184x184) hz2, View.ld_unit_zero (S := S1x3712) hz2, View.ld_unit_zero (S := S3712x1) hz2, View.ld_unit_zero (S := S29x64) hz2, View.ld_unit_zero (S := S1x64) hz2, View.ld_unit_zero (S := S29x192) hz2, View.ld_unit_zero (S := S64x192) hz2, View.ld_unit_zero (S := S64x29) hz2, View.ld_unit_zero (S := S1x1) hz2, View.ld_unit_zero (S := S5888x64) hz2, View.ld_unit_zero (S := S5888x29) hz2]
  rfl

set_option backward.isDefEq.respectTransparency false in
theorem out0_B_15_eq (c : Dev nD) (i : grid0.Coords)
    (a2 : Memref sig .tc .vmem S32x1x184x29 .bf16) (h2 : a2.IsWhole) (a3 : Memref sig .tc .vmem S1x3712 .i32)
    (h3 : a3.IsWhole) (a4 : Memref sig .tc .vmem S3712x1 .i32) (h4 : a4.IsWhole)
    (a5 : Memref sig .tc .vmem S3712x1 .f32) (h5 : a5.IsWhole) (a6 : Memref sig .tc .vmem S29x64 .bf16)
    (h6 : a6.IsWhole) (a7 : Memref sig .tc .vmem S29x64 .bf16) (h7 : a7.IsWhole)
    (a8 : Memref sig .tc .vmem S1x64 .f32) (h8 : a8.IsWhole) (a9 : Memref sig .tc .vmem S29x192 .bf16)
    (h9 : a9.IsWhole) (a10 : Memref sig .tc .vmem S64x192 .bf16) (h10 : a10.IsWhole)
    (a11 : Memref sig .tc .vmem S1x192 .f32) (h11 : a11.IsWhole) (a12 : Memref sig .tc .vmem S64x192 .bf16)
    (h12 : a12.IsWhole) (a13 : Memref sig .tc .vmem S1x192 .f32) (h13 : a13.IsWhole)
    (a14 : Memref sig .tc .vmem S64x29 .bf16) (h14 : a14.IsWhole) (a15 : Memref sig .tc .vmem S1x1 .f32)
    (h15 : a15.IsWhole) (a16 : Memref sig .tc .vmem S32x1x184x64 .f32) (h16 : a16.IsWhole)
    (a17 : Memref sig .tc .vmem S32x1x184x1 .f32) (h17 : a17.IsWhole) (a18 : Memref sig .tc .vmem S184x184 .bf16)
    (h18 : a18.IsWhole) (a19 : Memref sig .tc .vmem S5888x64 .f32) (h19 : a19.IsWhole)
    (a20 : Memref sig .tc .vmem S5888x29 .bf16) (h20 : a20.IsWhole)
    (hc : ¬cond0_0 i)
    (x0 : Vec F S32x1x184x29 .bf16) (x1 : Vec F S1x3712 .i32) (x2 : Vec F S3712x1 .i32) (x3 : Vec F S3712x1 .f32)
    (x4 : Vec F S29x64 .bf16) (x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32)
    (x12 : Vec F S64x29 .bf16) (x13 : Vec F S1x1 .f32) (xs0 : Vec F S184x184 .bf16) (xs1 : Vec F S5888x64 .f32)
    (xs2 : Vec F S5888x29 .bf16) :
    out0_B_15 c i a2 h2 a3 h3 a4 h4 a5 h5 a6 h6 a7 h7 a8 h8 a9 h9 a10 h10 a11 h11 a12 h12 a13 h13 a14 h14 a15 h15 a16
    h16 a17 h17 a18 h18 a19 h19 a20 h20 hc x0 x1 x2 x3 x4 x5 x6 x7 x8 x9 x10 x11 x12 x13 xs0 xs1 xs2
      = k0_pay3 (kY xs0 xs1 xs2 x0 x4 x5 x6 x7 x8 x9 x10 x11 x12) x13 := by
  unfold out0_B_15
  rw [View.read_writes_eq_canon _ _ _
  (cover0_B_15 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 x13 xs0 xs1 xs2)
  ]
  unfold kernelRun0_B
  dsimp only
  sl_unfold_words
  have ho1 := hoff1 i
  have ho2 := hoff2 i
  unfold k0_off1 at ho1
  unfold k0_off2 at ho2
  dsimp only at ho1 ho2
  simp only [View.canon_cons_unit_zero (S := S5888x29) ho1, View.canon_cons_unit_zero (S := S5888x64) ho2,
    View.canon_unit_zero (S := S184x184) hz2, View.canon_unit_zero (S := S32x1x184x64) hz4,
    View.canon_unit_zero (S := S32x1x184x1) hz4, rw1 (S := S5888x64) _ _ ho2, rw1 (S := S5888x29) _ _ ho1,
    rw1 (S := S184x184) _ _ hz2, rw1 (S := S5888x64) _ _ hz2, rw1 (S := S5888x29) _ _ hz2,
    rc (S := S5888x64) _ hz2 ho2, rc (S := S5888x29) _ hz2 ho1, rc (S := S184x184) _ hz2 hz2,
    View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, h20.read_unread, View.ld_unit_zero (S := S5888x29) ho1, View.ld_unit_zero (S := S5888x64) ho2,
    View.ld_unit_zero (S := S32x1x184x29) hz4, View.ld_unit_zero (S := S184x184) hz2, View.ld_unit_zero (S := S1x3712) hz2, View.ld_unit_zero (S := S3712x1) hz2, View.ld_unit_zero (S := S29x64) hz2, View.ld_unit_zero (S := S1x64) hz2, View.ld_unit_zero (S := S29x192) hz2, View.ld_unit_zero (S := S64x192) hz2, View.ld_unit_zero (S := S64x29) hz2, View.ld_unit_zero (S := S1x1) hz2, View.ld_unit_zero (S := S5888x64) hz2, View.ld_unit_zero (S := S5888x29) hz2]
  rfl

set_option backward.isDefEq.respectTransparency false in
theorem sout0_B_0_eq (c : Dev nD) (i : grid0.Coords)
    (a2 : Memref sig .tc .vmem S32x1x184x29 .bf16) (h2 : a2.IsWhole) (a3 : Memref sig .tc .vmem S1x3712 .i32)
    (h3 : a3.IsWhole) (a4 : Memref sig .tc .vmem S3712x1 .i32) (h4 : a4.IsWhole)
    (a5 : Memref sig .tc .vmem S3712x1 .f32) (h5 : a5.IsWhole) (a6 : Memref sig .tc .vmem S29x64 .bf16)
    (h6 : a6.IsWhole) (a7 : Memref sig .tc .vmem S29x64 .bf16) (h7 : a7.IsWhole)
    (a8 : Memref sig .tc .vmem S1x64 .f32) (h8 : a8.IsWhole) (a9 : Memref sig .tc .vmem S29x192 .bf16)
    (h9 : a9.IsWhole) (a10 : Memref sig .tc .vmem S64x192 .bf16) (h10 : a10.IsWhole)
    (a11 : Memref sig .tc .vmem S1x192 .f32) (h11 : a11.IsWhole) (a12 : Memref sig .tc .vmem S64x192 .bf16)
    (h12 : a12.IsWhole) (a13 : Memref sig .tc .vmem S1x192 .f32) (h13 : a13.IsWhole)
    (a14 : Memref sig .tc .vmem S64x29 .bf16) (h14 : a14.IsWhole) (a15 : Memref sig .tc .vmem S1x1 .f32)
    (h15 : a15.IsWhole) (a16 : Memref sig .tc .vmem S32x1x184x64 .f32) (h16 : a16.IsWhole)
    (a17 : Memref sig .tc .vmem S32x1x184x1 .f32) (h17 : a17.IsWhole) (a18 : Memref sig .tc .vmem S184x184 .bf16)
    (h18 : a18.IsWhole) (a19 : Memref sig .tc .vmem S5888x64 .f32) (h19 : a19.IsWhole)
    (a20 : Memref sig .tc .vmem S5888x29 .bf16) (h20 : a20.IsWhole)
    (hc : ¬cond0_0 i)
    (x0 : Vec F S32x1x184x29 .bf16) (x1 : Vec F S1x3712 .i32) (x2 : Vec F S3712x1 .i32) (x3 : Vec F S3712x1 .f32)
    (x4 : Vec F S29x64 .bf16) (x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32)
    (x12 : Vec F S64x29 .bf16) (x13 : Vec F S1x1 .f32) (xs0 : Vec F S184x184 .bf16) (xs1 : Vec F S5888x64 .f32)
    (xs2 : Vec F S5888x29 .bf16) :
    sout0_B_0 c i a2 h2 a3 h3 a4 h4 a5 h5 a6 h6 a7 h7 a8 h8 a9 h9 a10 h10 a11 h11 a12 h12 a13 h13 a14 h14 a15 h15 a16
    h16 a17 h17 a18 h18 a19 h19 a20 h20 hc x0 x1 x2 x3 x4 x5 x6 x7 x8 x9 x10 x11 x12 x13 xs0 xs1 xs2
      = xs0 := by
  rfl

set_option backward.isDefEq.respectTransparency false in
theorem sout0_B_1_eq (c : Dev nD) (i : grid0.Coords)
    (a2 : Memref sig .tc .vmem S32x1x184x29 .bf16) (h2 : a2.IsWhole) (a3 : Memref sig .tc .vmem S1x3712 .i32)
    (h3 : a3.IsWhole) (a4 : Memref sig .tc .vmem S3712x1 .i32) (h4 : a4.IsWhole)
    (a5 : Memref sig .tc .vmem S3712x1 .f32) (h5 : a5.IsWhole) (a6 : Memref sig .tc .vmem S29x64 .bf16)
    (h6 : a6.IsWhole) (a7 : Memref sig .tc .vmem S29x64 .bf16) (h7 : a7.IsWhole)
    (a8 : Memref sig .tc .vmem S1x64 .f32) (h8 : a8.IsWhole) (a9 : Memref sig .tc .vmem S29x192 .bf16)
    (h9 : a9.IsWhole) (a10 : Memref sig .tc .vmem S64x192 .bf16) (h10 : a10.IsWhole)
    (a11 : Memref sig .tc .vmem S1x192 .f32) (h11 : a11.IsWhole) (a12 : Memref sig .tc .vmem S64x192 .bf16)
    (h12 : a12.IsWhole) (a13 : Memref sig .tc .vmem S1x192 .f32) (h13 : a13.IsWhole)
    (a14 : Memref sig .tc .vmem S64x29 .bf16) (h14 : a14.IsWhole) (a15 : Memref sig .tc .vmem S1x1 .f32)
    (h15 : a15.IsWhole) (a16 : Memref sig .tc .vmem S32x1x184x64 .f32) (h16 : a16.IsWhole)
    (a17 : Memref sig .tc .vmem S32x1x184x1 .f32) (h17 : a17.IsWhole) (a18 : Memref sig .tc .vmem S184x184 .bf16)
    (h18 : a18.IsWhole) (a19 : Memref sig .tc .vmem S5888x64 .f32) (h19 : a19.IsWhole)
    (a20 : Memref sig .tc .vmem S5888x29 .bf16) (h20 : a20.IsWhole)
    (hc : ¬cond0_0 i)
    (x0 : Vec F S32x1x184x29 .bf16) (x1 : Vec F S1x3712 .i32) (x2 : Vec F S3712x1 .i32) (x3 : Vec F S3712x1 .f32)
    (x4 : Vec F S29x64 .bf16) (x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32)
    (x12 : Vec F S64x29 .bf16) (x13 : Vec F S1x1 .f32) (xs0 : Vec F S184x184 .bf16) (xs1 : Vec F S5888x64 .f32)
    (xs2 : Vec F S5888x29 .bf16) :
    sout0_B_1 c i a2 h2 a3 h3 a4 h4 a5 h5 a6 h6 a7 h7 a8 h8 a9 h9 a10 h10 a11 h11 a12 h12 a13 h13 a14 h14 a15 h15 a16
    h16 a17 h17 a18 h18 a19 h19 a20 h20 hc x0 x1 x2 x3 x4 x5 x6 x7 x8 x9 x10 x11 x12 x13 xs0 xs1 xs2
      = kH xs0 xs1 xs2 x0 x4 x5 x6 x7 x8 x9 x10 x11 := by
  unfold sout0_B_1
  unfold kernelRun0_B
  dsimp only
  sl_unfold_words
  have ho1 := hoff1 i
  have ho2 := hoff2 i
  unfold k0_off1 at ho1
  unfold k0_off2 at ho2
  dsimp only at ho1 ho2
  simp only [View.canon_cons_unit_zero (S := S5888x29) ho1, View.canon_cons_unit_zero (S := S5888x64) ho2,
    View.canon_unit_zero (S := S184x184) hz2, View.canon_unit_zero (S := S32x1x184x64) hz4,
    View.canon_unit_zero (S := S32x1x184x1) hz4, rw1 (S := S5888x64) _ _ ho2, rw1 (S := S5888x29) _ _ ho1,
    rw1 (S := S184x184) _ _ hz2, rw1 (S := S5888x64) _ _ hz2, rw1 (S := S5888x29) _ _ hz2,
    rc (S := S5888x64) _ hz2 ho2, rc (S := S5888x29) _ hz2 ho1, rc (S := S184x184) _ hz2 hz2,
    View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, h20.read_unread, View.ld_unit_zero (S := S5888x29) ho1, View.ld_unit_zero (S := S5888x64) ho2,
    View.ld_unit_zero (S := S32x1x184x29) hz4, View.ld_unit_zero (S := S184x184) hz2, View.ld_unit_zero (S := S1x3712) hz2, View.ld_unit_zero (S := S3712x1) hz2, View.ld_unit_zero (S := S29x64) hz2, View.ld_unit_zero (S := S1x64) hz2, View.ld_unit_zero (S := S29x192) hz2, View.ld_unit_zero (S := S64x192) hz2, View.ld_unit_zero (S := S64x29) hz2, View.ld_unit_zero (S := S1x1) hz2, View.ld_unit_zero (S := S5888x64) hz2, View.ld_unit_zero (S := S5888x29) hz2]
  exact shapeCast_self _ _

set_option backward.isDefEq.respectTransparency false in
theorem sout0_B_2_eq (c : Dev nD) (i : grid0.Coords)
    (a2 : Memref sig .tc .vmem S32x1x184x29 .bf16) (h2 : a2.IsWhole) (a3 : Memref sig .tc .vmem S1x3712 .i32)
    (h3 : a3.IsWhole) (a4 : Memref sig .tc .vmem S3712x1 .i32) (h4 : a4.IsWhole)
    (a5 : Memref sig .tc .vmem S3712x1 .f32) (h5 : a5.IsWhole) (a6 : Memref sig .tc .vmem S29x64 .bf16)
    (h6 : a6.IsWhole) (a7 : Memref sig .tc .vmem S29x64 .bf16) (h7 : a7.IsWhole)
    (a8 : Memref sig .tc .vmem S1x64 .f32) (h8 : a8.IsWhole) (a9 : Memref sig .tc .vmem S29x192 .bf16)
    (h9 : a9.IsWhole) (a10 : Memref sig .tc .vmem S64x192 .bf16) (h10 : a10.IsWhole)
    (a11 : Memref sig .tc .vmem S1x192 .f32) (h11 : a11.IsWhole) (a12 : Memref sig .tc .vmem S64x192 .bf16)
    (h12 : a12.IsWhole) (a13 : Memref sig .tc .vmem S1x192 .f32) (h13 : a13.IsWhole)
    (a14 : Memref sig .tc .vmem S64x29 .bf16) (h14 : a14.IsWhole) (a15 : Memref sig .tc .vmem S1x1 .f32)
    (h15 : a15.IsWhole) (a16 : Memref sig .tc .vmem S32x1x184x64 .f32) (h16 : a16.IsWhole)
    (a17 : Memref sig .tc .vmem S32x1x184x1 .f32) (h17 : a17.IsWhole) (a18 : Memref sig .tc .vmem S184x184 .bf16)
    (h18 : a18.IsWhole) (a19 : Memref sig .tc .vmem S5888x64 .f32) (h19 : a19.IsWhole)
    (a20 : Memref sig .tc .vmem S5888x29 .bf16) (h20 : a20.IsWhole)
    (hc : ¬cond0_0 i)
    (x0 : Vec F S32x1x184x29 .bf16) (x1 : Vec F S1x3712 .i32) (x2 : Vec F S3712x1 .i32) (x3 : Vec F S3712x1 .f32)
    (x4 : Vec F S29x64 .bf16) (x5 : Vec F S29x64 .bf16) (x6 : Vec F S1x64 .f32) (x7 : Vec F S29x192 .bf16)
    (x8 : Vec F S64x192 .bf16) (x9 : Vec F S1x192 .f32) (x10 : Vec F S64x192 .bf16) (x11 : Vec F S1x192 .f32)
    (x12 : Vec F S64x29 .bf16) (x13 : Vec F S1x1 .f32) (xs0 : Vec F S184x184 .bf16) (xs1 : Vec F S5888x64 .f32)
    (xs2 : Vec F S5888x29 .bf16) :
    sout0_B_2 c i a2 h2 a3 h3 a4 h4 a5 h5 a6 h6 a7 h7 a8 h8 a9 h9 a10 h10 a11 h11 a12 h12 a13 h13 a14 h14 a15 h15 a16
    h16 a17 h17 a18 h18 a19 h19 a20 h20 hc x0 x1 x2 x3 x4 x5 x6 x7 x8 x9 x10 x11 x12 x13 xs0 xs1 xs2
      = kXn xs0 xs1 xs2 x0 x4 x5 x6 x7 x8 x9 x10 x11 x12 := by
  unfold sout0_B_2
  unfold kernelRun0_B
  dsimp only
  sl_unfold_words
  have ho1 := hoff1 i
  have ho2 := hoff2 i
  unfold k0_off1 at ho1
  unfold k0_off2 at ho2
  dsimp only at ho1 ho2
  simp only [View.canon_cons_unit_zero (S := S5888x29) ho1, View.canon_cons_unit_zero (S := S5888x64) ho2,
    View.canon_unit_zero (S := S184x184) hz2, View.canon_unit_zero (S := S32x1x184x64) hz4,
    View.canon_unit_zero (S := S32x1x184x1) hz4, rw1 (S := S5888x64) _ _ ho2, rw1 (S := S5888x29) _ _ ho1,
    rw1 (S := S184x184) _ _ hz2, rw1 (S := S5888x64) _ _ hz2, rw1 (S := S5888x29) _ _ hz2,
    rc (S := S5888x64) _ hz2 ho2, rc (S := S5888x29) _ hz2 ho1, rc (S := S184x184) _ hz2 hz2,
    View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, h20.read_unread, View.ld_unit_zero (S := S5888x29) ho1, View.ld_unit_zero (S := S5888x64) ho2,
    View.ld_unit_zero (S := S32x1x184x29) hz4, View.ld_unit_zero (S := S184x184) hz2, View.ld_unit_zero (S := S1x3712) hz2, View.ld_unit_zero (S := S3712x1) hz2, View.ld_unit_zero (S := S29x64) hz2, View.ld_unit_zero (S := S1x64) hz2, View.ld_unit_zero (S := S29x192) hz2, View.ld_unit_zero (S := S64x192) hz2, View.ld_unit_zero (S := S64x29) hz2, View.ld_unit_zero (S := S1x1) hz2, View.ld_unit_zero (S := S5888x64) hz2, View.ld_unit_zero (S := S5888x29) hz2]
  exact shapeCast_self _ _

end Cert.Proof.KStep

end
-- ==== Proof.Spec.lean ====
/- The recurrence both programs compute, written once over the extended reals by coordinates (`Inp`, `nextH`, `nextX`, `st`),
   and the real arithmetic behind it: the logistic function written with `tanh`, the graph product taken before or
   after the input projection (equal where the entries are real), and that the state stays real. -/
module

public import Idealize.ShloMosaic.PureOps.Ideal
public import Idealize.ShloMosaic.Lib.IdealHost

@[expose] public section

noncomputable section

namespace Cert.Proof.Spec

open Idealize.ShloMosaic
open scoped BigOperators

/-! ## Numbers -/

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩
theorem IsR.sum {ι : Type} (s : Finset ι) (f : ι → EReal) (h : ∀ i, IsR (f i)) : IsR (∑ i ∈ s, f i) := by
  classical
  induction s using Finset.induction_on with
  | empty => simpa using IsR.zero
  | insert a s ha ih => rw [Finset.sum_insert ha]; exact (h a).add ih

/-- A number whose absolute value is below infinity is real. -/
theorem isR_of_abs {x : EReal} (h1 : x ≠ ⊤) (h2 : x ≠ ⊥) : IsR x := by
  induction x using EReal.rec with
  | bot => exact absurd rfl h2
  | top => exact absurd rfl h1
  | coe r => exact ⟨r, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ofBits_half_f32 : Ideal.ofBits .f32 0x3F000000#32 = (((1 : ℝ) / 2 : ℝ) : EReal) := by
  simp [Ideal.ofBits, Ideal.ieee]
  rw [← EReal.coe_mul]
  norm_num

/-- `tanh` is real everywhere. -/
theorem isR_tanh (x : EReal) : IsR (Ideal.tanh x) := by
  induction x using EReal.rec with
  | bot => exact ⟨-1, by show (-1 : EReal) = _; simp⟩
  | top => exact ⟨1, by show (1 : EReal) = _; simp⟩
  | coe r => exact ⟨Real.tanh r, rfl⟩

theorem logistic_real (r : ℝ) : Ideal.logistic (r : EReal) = ((1 / (1 + Real.exp (-r)) : ℝ) : EReal) := by
  have hp : (1 + Real.exp (-r) : ℝ) ≠ 0 := by positivity
  have h : (1 : EReal) + Ideal.exp (-(r : EReal)) = ((1 + Real.exp (-r) : ℝ) : EReal) := by
    rw [← EReal.coe_neg]; show (1 : EReal) + ((Real.exp (-r) : ℝ) : EReal) = _
    rw [EReal.coe_add]; rfl
  unfold Ideal.logistic Ideal.div
  rw [h, if_neg (by exact_mod_cast hp), one_mul, ← EReal.coe_inv, one_div]

theorem logistic_top : Ideal.logistic ⊤ = 1 := by
  unfold Ideal.logistic Ideal.div
  rw [EReal.neg_top]
  show (if (1 : EReal) + 0 = 0 then _ else (1 : EReal) * (1 + 0)⁻¹) = 1
  simp

theorem logistic_bot : Ideal.logistic ⊥ = 0 := by
  unfold Ideal.logistic Ideal.div
  rw [EReal.neg_bot]
  show (if (1 : EReal) + ⊤ = 0 then _ else (1 : EReal) * (1 + ⊤)⁻¹) = 0
  have : (1 : EReal) + ⊤ = ⊤ := by rw [EReal.add_top_of_ne_bot (by exact_mod_cast EReal.coe_ne_bot 1)]
  rw [this]; simp

/-- The logistic function is real everywhere. -/
theorem isR_logistic (x : EReal) : IsR (Ideal.logistic x) := by
  induction x using EReal.rec with
  | bot => rw [logistic_bot]; exact IsR.zero
  | top => rw [logistic_top]; exact IsR.one
  | coe r => rw [logistic_real]; exact IsR.coe _

/-- The logistic function by `tanh`: `½ · tanh (½ · x) + ½`, at every extended real. -/
theorem half_tanh (x : EReal) :
    (((1 : ℝ) / 2 : ℝ) : EReal) * Ideal.tanh ((((1 : ℝ) / 2 : ℝ) : EReal) * x) + (((1 : ℝ) / 2 : ℝ) : EReal) = Ideal.logistic x := by
  induction x using EReal.rec with
  | bot =>
    rw [logistic_bot, EReal.coe_mul_bot_of_pos (by norm_num)]
    show (((1 : ℝ) / 2 : ℝ) : EReal) * (-1) + _ = 0
    have : (-1 : EReal) = ((-1 : ℝ) : EReal) := by simp
    rw [this, ← EReal.coe_mul, ← EReal.coe_add]; norm_num
  | top =>
    rw [logistic_top, EReal.coe_mul_top_of_pos (by norm_num)]
    show (((1 : ℝ) / 2 : ℝ) : EReal) * 1 + _ = 1
    rw [mul_one, ← EReal.coe_add]; norm_num
  | coe r =>
    rw [logistic_real, ← EReal.coe_mul]
    show (((1 : ℝ) / 2 : ℝ) : EReal) * ((Real.tanh (1 / 2 * r) : ℝ) : EReal) + _ = _
    rw [← EReal.coe_mul, ← EReal.coe_add]
    congr 1
    have e : Real.exp (-r) = Real.exp (-(1 / 2 * r)) * Real.exp (-(1 / 2 * r)) := by rw [← Real.exp_add]; congr 1; ring
    have e' : Real.exp (1 / 2 * r) * Real.exp (-(1 / 2 * r)) = 1 := by rw [← Real.exp_add]; simp
    rw [Real.tanh_eq_sinh_div_cosh, Real.sinh_eq, Real.cosh_eq, e]
    set a := Real.exp (1 / 2 * r) with ha
    set b := Real.exp (-(1 / 2 * r)) with hb
    have pa : 0 < a := Real.exp_pos _
    have pb : 0 < b := Real.exp_pos _
    have h1 : a + b ≠ 0 := by positivity
    have h2 : 1 + b * b ≠ 0 := by positivity
    field_simp
    linear_combination (2 * b) * e'

/-! ## The recurrence -/

/-- The arguments by coordinates. -/
structure Inp where
  X : Fin 32 → Fin 48 → Fin 184 → Fin 27 → EReal
  y : Fin 32 → Fin 48 → Fin 184 → EReal
  Wrel : Fin 29 → Fin 64 → EReal
  Wroot : Fin 29 → Fin 64 → EReal
  bconv : Fin 64 → EReal
  Wih : Fin 93 → Fin 192 → EReal
  Whh : Fin 64 → Fin 192 → EReal
  bih : Fin 192 → EReal
  bhh : Fin 192 → EReal
  Wout : Fin 64 → EReal
  bout : EReal
  src : Fin 115872 → BitVec 32
  dst : Fin 115872 → BitVec 32
  w : Fin 115872 → EReal

/-- Edge `e` of graph `b`. -/
def edge (b : Fin 32) (e : Fin 3621) : Fin 115872 := ⟨3621 * b.val + e.val, by omega⟩
/-- Node `n` of graph `b` as a row. -/
def row (b : Fin 32) (n : Fin 184) : Fin 5888 := ⟨184 * b.val + n.val, by omega⟩
/-- A row's graph and node. -/
def gb (r : Fin 5888) : Fin 32 := ⟨r.val / 184, by omega⟩
def nd (r : Fin 5888) : Fin 184 := ⟨r.val % 184, by omega⟩
/-- A step as a position of the 48 given ones. -/
def at48 (t : ℕ) : Fin 48 := ⟨t % 48, by omega⟩

theorem row_gb_nd (r : Fin 5888) : row (gb r) (nd r) = r := Fin.ext (by simp only [row, gb, nd]; omega)
theorem gb_row (b : Fin 32) (n : Fin 184) : gb (row b n) = b := Fin.ext (by simp only [row, gb]; omega)
theorem nd_row (b : Fin 32) (n : Fin 184) : nd (row b n) = n := Fin.ext (by simp only [row, nd]; omega)

variable (I : Inp)

/-- What the precondition says of the arguments: 32 copies of one graph, edge weights repeated, no output bias, and real
    numbers where the graph product needs them. -/
structure Ok : Prop where
  src_lt : ∀ e : Fin 3621, (I.src (edge 0 e)).toNat < 184
  dst_lt : ∀ e : Fin 3621, (I.dst (edge 0 e)).toNat < 184
  src_eq : ∀ b e, (I.src (edge b e)).toNat = 184 * b.val + (I.src (edge 0 e)).toNat
  dst_eq : ∀ b e, (I.dst (edge b e)).toNat = 184 * b.val + (I.dst (edge 0 e)).toNat
  w_eq : ∀ b e, I.w (edge b e) = I.w (edge 0 e)
  bout : I.bout = 0
  X_r : ∀ (b : Fin 32) (t : ℕ) (_ : t < 24) (n : Fin 184) (q : Fin 27), IsR (I.X b (at48 t) n q)
  y_r : ∀ (b : Fin 32) (t : ℕ) (_ : t < 24) (n : Fin 184), IsR (I.y b (at48 t) n)
  w_r : ∀ e, IsR (I.w e)
  Wrel_r : ∀ q k, IsR (I.Wrel q k)
  Wout_r : ∀ k, IsR (I.Wout k)

/-- The first graph's source and target node of edge `e`. -/
def src0 (e : Fin 3621) : Fin 184 := ⟨(I.src (edge 0 e)).toNat % 184, by omega⟩
def dst0 (e : Fin 3621) : Fin 184 := ⟨(I.dst (edge 0 e)).toNat % 184, by omega⟩

/-- A step's input rows: the carried column, the target's column, the 27 given columns. -/
def xf (t : ℕ) (xn : Fin 5888 → EReal) (r : Fin 5888) (q : Fin 29) : EReal :=
  if q.val = 0 then xn r
  else if q.val = 1 then I.y (gb r) (at48 t) (nd r)
  else I.X (gb r) (at48 t) (nd r) ⟨(q.val - 2) % 27, by omega⟩

/-- The neighbours' weighted sum. -/
def agg (x : Fin 5888 → Fin 29 → EReal) (r : Fin 5888) (q : Fin 29) : EReal :=
  ∑ e : Fin 3621, if dst0 I e = nd r then I.w (edge 0 e) * x (row (gb r) (src0 I e)) q else 0

/-- The convolution's gate. -/
def gcn (x : Fin 5888 → Fin 29 → EReal) (r : Fin 5888) (k : Fin 64) : EReal :=
  Ideal.logistic ((∑ q, agg I x r q * I.Wrel q k) + (∑ q, x r q * I.Wroot q k) + I.bconv k)

/-- The input gates before their bias. -/
def gi (x : Fin 5888 → Fin 29 → EReal) (r : Fin 5888) (c : Fin 192) : EReal :=
  (∑ q : Fin 29, x r q * I.Wih ⟨q.val, by omega⟩ c) + ∑ k : Fin 64, gcn I x r k * I.Wih ⟨29 + k.val, by omega⟩ c

/-- The state gates before their bias. -/
def gh (h : Fin 5888 → Fin 64 → EReal) (r : Fin 5888) (c : Fin 192) : EReal := ∑ k, h r k * I.Whh k c

/-- One cell of the update. -/
def cellH (ai ah bi bh : Fin 192 → EReal) (h : EReal) (k : Fin 64) : EReal :=
  (1 - Ideal.logistic (ai ⟨64 + k.val, by omega⟩ + bi ⟨64 + k.val, by omega⟩
          + (ah ⟨64 + k.val, by omega⟩ + bh ⟨64 + k.val, by omega⟩)))
      * Ideal.tanh (ai ⟨128 + k.val, by omega⟩ + bi ⟨128 + k.val, by omega⟩
          + Ideal.logistic (ai ⟨k.val, by omega⟩ + bi ⟨k.val, by omega⟩ + (ah ⟨k.val, by omega⟩ + bh ⟨k.val, by omega⟩))
            * (ah ⟨128 + k.val, by omega⟩ + bh ⟨128 + k.val, by omega⟩))
    + Ideal.logistic (ai ⟨64 + k.val, by omega⟩ + bi ⟨64 + k.val, by omega⟩
          + (ah ⟨64 + k.val, by omega⟩ + bh ⟨64 + k.val, by omega⟩)) * h

/-- The next state. -/
def nextH (t : ℕ) (h : Fin 5888 → Fin 64 → EReal) (xn : Fin 5888 → EReal) (r : Fin 5888) (k : Fin 64) : EReal :=
  cellH (gi I (xf I t xn) r) (gh I h r) I.bih I.bhh (h r k) k

/-- The next column. -/
def nextX (h : Fin 5888 → Fin 64 → EReal) (r : Fin 5888) : EReal := ∑ k, h r k * I.Wout k

/-- The state and the column after `t` steps. -/
def st : ℕ → (Fin 5888 → Fin 64 → EReal) × (Fin 5888 → EReal)
  | 0 => (fun _ _ => 0, fun _ => 0)
  | t + 1 => (nextH I t (st t).1 (st t).2, nextX I (nextH I t (st t).1 (st t).2))

theorem isR_cellH (ai ah bi bh : Fin 192 → EReal) {h : EReal} (hh : IsR h) (k : Fin 64) : IsR (cellH ai ah bi bh h k) :=
  ((IsR.one.sub (isR_logistic _)).mul (isR_tanh _)).add ((isR_logistic _).mul hh)

/-- The state and the column stay real. -/
theorem isR_st (ok : Ok I) : ∀ t, (∀ r k, IsR ((st I t).1 r k)) ∧ ∀ r, IsR ((st I t).2 r)
  | 0 => ⟨fun _ _ => IsR.zero, fun _ => IsR.zero⟩
  | t + 1 => by
    have h1 : ∀ r k, IsR ((st I (t + 1)).1 r k) := fun r k => isR_cellH _ _ _ _ ((isR_st ok t).1 r k) k
    exact ⟨h1, fun r => show IsR (∑ k, (st I (t + 1)).1 r k * I.Wout k) from IsR.sum _ _ fun k => (h1 r k).mul (ok.Wout_r k)⟩

/-- So a step's input rows are real. -/
theorem isR_xf (ok : Ok I) (t : ℕ) (ht : t < 24) (r : Fin 5888) (q : Fin 29) : IsR (xf I t (st I t).2 r q) := by
  unfold xf
  split
  · exact (isR_st I ok t).2 r
  · split
    · exact ok.y_r _ _ ht _
    · exact ok.X_r _ _ ht _ _

/-- The graph product before or after the projection, in the reals. -/
theorem rel_real {E N Q : ℕ} (w : Fin E → ℝ) (s d : Fin E → Fin N) (x : Fin N → Fin Q → ℝ) (W : Fin Q → ℝ) (n : Fin N) :
    ∑ m : Fin N, (∑ e : Fin E, (if d e = n then 1 else 0) * (if s e = m then w e else 0)) * (∑ q, x m q * W q)
      = ∑ q, (∑ e : Fin E, if d e = n then w e * x (s e) q else 0) * W q := by
  have h1 : ∀ m : Fin N, (∑ e : Fin E, (if d e = n then (1 : ℝ) else 0) * (if s e = m then w e else 0)) * (∑ q, x m q * W q)
      = ∑ e : Fin E, if s e = m then (if d e = n then w e * (∑ q, x m q * W q) else 0) else 0 := by
    intro m
    rw [Finset.sum_mul]
    refine Finset.sum_congr rfl fun e _ => ?_
    by_cases h : s e = m <;> by_cases h' : d e = n <;> simp [h, h']
  simp_rw [h1]
  rw [Finset.sum_comm]
  have h2 : ∀ e : Fin E, (∑ m : Fin N, if s e = m then (if d e = n then w e * (∑ q, x m q * W q) else 0) else 0)
      = if d e = n then w e * ∑ q, x (s e) q * W q else 0 := by
    intro e
    rw [Finset.sum_ite_eq]; simp
  simp_rw [h2, Finset.sum_mul]
  rw [Finset.sum_comm]
  refine Finset.sum_congr rfl fun e _ => ?_
  by_cases h' : d e = n
  · simp [h', Finset.mul_sum, mul_assoc]
  · simp [h']

/-- The same over the extended reals, where every entry is real. -/
theorem rel_ereal {E N Q : ℕ} (w : Fin E → EReal) (s d : Fin E → Fin N) (x : Fin N → Fin Q → EReal) (W : Fin Q → EReal)
    (hw : ∀ e, IsR (w e)) (hx : ∀ m q, IsR (x m q)) (hW : ∀ q, IsR (W q)) (n : Fin N) :
    ∑ m : Fin N, (∑ e : Fin E, (if d e = n then 1 else 0) * (if s e = m then w e else 0)) * (∑ q, x m q * W q)
      = ∑ q, (∑ e : Fin E, if d e = n then w e * x (s e) q else 0) * W q := by
  choose w' hw' using hw
  choose x' hx' using hx
  choose W' hW' using hW
  have h := congrArg (fun r : ℝ => (r : EReal)) (rel_real w' s d x' W' n)
  simp only [coe_sum, EReal.coe_mul] at h
  have i1 : ∀ (p : Prop) [Decidable p] (a : ℝ), ((if p then a else 0 : ℝ) : EReal) = if p then (a : EReal) else 0 := by
    intro p _ a; split <;> simp
  simp only [i1, EReal.coe_mul, EReal.coe_one] at h
  simpa only [hw', hx', hW'] using h

end Cert.Proof.Spec

end
-- ==== Proof.KIdeal.lean ====
/- The body's values at the extended reals, entry by entry. -/
module

public import proofs.«01_k».proof.Proof.KStep
public import proofs.«01_k».proof.Proof.Spec
public import Idealize.ShloMosaic.Lib.Pointwise
public import Idealize.ShloMosaic.Lib.WordCmp
public import Idealize.ShloMosaic.Lib.Pipeline.ValueKit.Tiles

@[expose] public section

set_option maxRecDepth 16384

noncomputable section

namespace Cert.Proof.KIdeal

open Cert.KernelIdeal Cert.KernelIdeal.Gen Cert.Proof.KStep Cert.Proof.Spec
open Idealize.ShloMosaic Idealize.ShloMosaic.TcCoe Idealize.SL.Sem

variable {F : FTy → Type} [FloatOps F]

/-- The rows of graph `b` are a slice of all the rows. -/
theorem slices_b (b : Fin 32) : S5888x64.Slices ![184 * b.val, 0] S184x64 := by
  revert b; decide

/-- The adjacency times the rows of graph `b`. -/
def blkv (A : FVec F S184x184 .bf16) (R : FVec F S5888x64 .bf16) (b : Fin 32) : FVec F S184x64 .f32 :=
  matmul dot_S184x184_S184x64_S184x64_1_0_0_1_n_n none A (extractStridedSlice S184x64 ![184 * b.val, 0] R (slices_b b)) z0

theorem cat_b (A : FVec F S184x184 .bf16) (R : FVec F S5888x64 .bf16) :
    Shape.Concatenates ((List.ofFn fun b : Fin 32 => (⟨S184x64, blkv A R b⟩ : (s : Shape) × (s.Idx → F .f32))).map (·.1)) S5888x64 0 := by
  rw [List.map_ofFn]
  exact (by decide : Shape.Concatenates (List.ofFn fun _ : Fin 32 => S184x64) S5888x64 0)

/-- The graph products one below the other. -/
def kRg (A : FVec F S184x184 .bf16) (R : FVec F S5888x64 .bf16) : FVec F S5888x64 .f32 :=
  concatenate S5888x64 0 (List.ofFn fun b : Fin 32 => (⟨S184x64, blkv A R b⟩ : (s : Shape) × (s.Idx → F .f32))) (cat_b A R)

/-- The convolution's gate from its graph products. -/
def kGcn (x : FVec F S5888x29 .bf16) (Rg : FVec F S5888x64 .f32) (x5 : Vec F S29x64 .bf16) (x6 : Vec F S1x64 .f32) : FVec F S5888x64 .f32 :=
  addf (mulf (broadcast S5888x64 (Scalar.ofBits .f32 0x3F000000#32)) (tanh (mulf (broadcast S5888x64 (Scalar.ofBits .f32 0x3F000000#32))
    (addf (addf Rg (matmul dot_S5888x29_S29x64_S5888x64_1_0_0_1_n_n none x (shapeCast S29x64 x5 shapeCasts_S29x64_S29x64)
      (constant S5888x64 .f32 0x00000000#32))) (broadcastTo S5888x64 (shapeCast S1x64 x6 shapeCasts_S1x64_S1x64) broadcasts_S1x64_S5888x64)))))
    (broadcast S5888x64 (Scalar.ofBits .f32 0x3F000000#32))

theorem kGi_eq (A : Vec F S184x184 .bf16) (xn : Vec F S5888x29 .bf16)
    (x0 : Vec F S32x1x184x29 .bf16) (x4 x5 : Vec F S29x64 .bf16) (x6 : Vec F S1x64 .f32) (x7 : Vec F S29x192 .bf16) (x8 : Vec F S64x192 .bf16) :
    kGi A xn x0 x4 x5 x6 x7 x8
      = addf (matmul dot_S5888x29_S29x192_S5888x192_1_0_0_1_n_n none (k0_pay7 x0 xn) (shapeCast S29x192 x7 shapeCasts_S29x192_S29x192) (constant S5888x192 .f32 0x00000000#32))
          (matmul dot_S5888x64_S64x192_S5888x192_1_0_0_1_n_n none
            (truncf .bf16 (kGcn (k0_pay7 x0 xn) (kRg A (k0_pay8 x0 xn x4)) x5 x6) bitsLt_bf16_f32)
            (shapeCast S64x192 x8 shapeCasts_S64x192_S64x192) (constant S5888x192 .f32 0x00000000#32)) := rfl

theorem kGi128_eq (A : Vec F S184x184 .bf16) (xn : Vec F S5888x29 .bf16)
    (x0 : Vec F S32x1x184x29 .bf16) (x4 x5 : Vec F S29x64 .bf16) (x6 : Vec F S1x64 .f32) (x7 : Vec F S29x192 .bf16) (x8 : Vec F S64x192 .bf16) :
    kGi128 A xn x0 x4 x5 x6 x7 x8
      = extractStridedSlice S5888x128 ![0, 0] (kGi A xn x0 x4 x5 x6 x7 x8) slices_S5888x192_o0_0_S5888x128 := rfl

/-- A step's input rows: the block's row plus the carried row. -/
theorem pay7_apply (x0 : Vec Ideal S32x1x184x29 .bf16) (xn : Vec Ideal S5888x29 .bf16) (r : Fin 5888) (q : Fin 29) :
    k0_pay7 x0 xn (ix2 r q) = x0 (ix4 (gb r) 0 (nd r) q) + xn (ix2 r q) := by
  unfold k0_pay7
  pointwise
  rfl

theorem pay8_apply (x0 : Vec Ideal S32x1x184x29 .bf16) (xn : Vec Ideal S5888x29 .bf16) (x4 : Vec Ideal S29x64 .bf16) (r : Fin 5888) (k : Fin 64) :
    k0_pay8 x0 xn x4 (ix2 r k) = ∑ q : Fin 29, k0_pay7 x0 xn (ix2 r q) * x4 (ix2 q k) := by
  unfold k0_pay8
  pointwise

theorem blkv_apply (A : FVec Ideal S184x184 .bf16) (R : FVec Ideal S5888x64 .bf16) (b : Fin 32) (n : Fin 184) (k : Fin 64) :
    blkv A R b (ix2 n k) = ∑ m : Fin 184, A (ix2 n m) * R (ix2 (row b m) k) := by
  unfold blkv z0
  pointwise
  rfl

theorem kRg_apply (A : FVec Ideal S184x184 .bf16) (R : FVec Ideal S5888x64 .bf16) (r : Fin 5888) (k : Fin 64) :
    kRg A R (ix2 r k) = ∑ m : Fin 184, A (ix2 (nd r) m) * R (ix2 (row (gb r) m) k) := by
  rw [← blkv_apply]
  unfold kRg
  refine concatenate_ofFn_apply 0 (fun b => blkv A R b) (cat_b A R) rfl 184 rfl _ (gb r) rfl _ rfl fun b hb => ?_
  fin_cases b
  · exact absurd rfl hb
  · rfl

theorem kGcn_apply (x : FVec Ideal S5888x29 .bf16) (Rg : FVec Ideal S5888x64 .f32) (x5 : Vec Ideal S29x64 .bf16) (x6 : Vec Ideal S1x64 .f32)
    (r : Fin 5888) (k : Fin 64) :
    kGcn x Rg x5 x6 (ix2 r k) = Ideal.logistic (Rg (ix2 r k) + (∑ q : Fin 29, x (ix2 r q) * x5 (ix2 q k)) + x6 (ix2 0 k)) := by
  unfold kGcn
  pointwise
  rw [ofBits_half_f32, half_tanh]

theorem kGi_apply (A : Vec Ideal S184x184 .bf16) (xn : Vec Ideal S5888x29 .bf16)
    (x0 : Vec Ideal S32x1x184x29 .bf16) (x4 x5 : Vec Ideal S29x64 .bf16) (x6 : Vec Ideal S1x64 .f32) (x7 : Vec Ideal S29x192 .bf16)
    (x8 : Vec Ideal S64x192 .bf16) (r : Fin 5888) (c : Fin 192) :
    kGi A xn x0 x4 x5 x6 x7 x8 (ix2 r c)
      = (∑ q : Fin 29, k0_pay7 x0 xn (ix2 r q) * x7 (ix2 q c))
        + ∑ k : Fin 64, Ideal.logistic (kRg A (k0_pay8 x0 xn x4) (ix2 r k)
            + (∑ q : Fin 29, k0_pay7 x0 xn (ix2 r q) * x5 (ix2 q k)) + x6 (ix2 0 k)) * x8 (ix2 k c) := by
  rw [kGi_eq]
  pointwise
  simp only [kGcn_apply]

theorem pay39_apply (h : Vec Ideal S5888x64 .f32) (x10 : Vec Ideal S64x192 .bf16) (r : Fin 5888) (c : Fin 192) :
    k0_pay39 h x10 (ix2 r c) = ∑ k : Fin 64, h (ix2 r k) * x10 (ix2 k c) := by
  unfold k0_pay39
  pointwise

/-- The update's cell, from its gates. -/
theorem pay42_apply (h : Vec Ideal S5888x64 .f32) (gi gh : FVec Ideal S5888x192 .f32) (gi' gh' : FVec Ideal S5888x128 .f32)
    (b : Vec Ideal S1x128 .f32) (bn hn : Vec Ideal S1x64 .f32) (r : Fin 5888) (k : Fin 64) :
    k0_pay42 h gi gh gi' gh' b bn hn (ix2 r k)
      = (1 - Ideal.logistic (gi' (ix2 r ⟨64 + k.val, by omega⟩) + gh' (ix2 r ⟨64 + k.val, by omega⟩) + b (ix2 0 ⟨64 + k.val, by omega⟩)))
          * Ideal.tanh (gi (ix2 r ⟨128 + k.val, by omega⟩) + bn (ix2 0 k)
            + Ideal.logistic (gi' (ix2 r ⟨k.val, by omega⟩) + gh' (ix2 r ⟨k.val, by omega⟩) + b (ix2 0 ⟨k.val, by omega⟩))
              * (gh (ix2 r ⟨128 + k.val, by omega⟩) + hn (ix2 0 k)))
        + Ideal.logistic (gi' (ix2 r ⟨64 + k.val, by omega⟩) + gh' (ix2 r ⟨64 + k.val, by omega⟩) + b (ix2 0 ⟨64 + k.val, by omega⟩))
          * h (ix2 r k) := by
  unfold k0_pay42
  pointwise
  simp only [ofBits_half_f32, half_tanh]

theorem gi128_apply (A : Vec Ideal S184x184 .bf16) (xn : Vec Ideal S5888x29 .bf16)
    (x0 : Vec Ideal S32x1x184x29 .bf16) (x4 x5 : Vec Ideal S29x64 .bf16) (x6 : Vec Ideal S1x64 .f32) (x7 : Vec Ideal S29x192 .bf16)
    (x8 : Vec Ideal S64x192 .bf16) (r : Fin 5888) (c : Fin 128) :
    kGi128 A xn x0 x4 x5 x6 x7 x8 (ix2 r c) = kGi A xn x0 x4 x5 x6 x7 x8 (ix2 r ⟨c.val, by omega⟩) := by
  rw [kGi128_eq]
  pointwise

theorem pay41_apply (h : Vec Ideal S5888x64 .f32) (x10 : Vec Ideal S64x192 .bf16) (r : Fin 5888) (c : Fin 128) :
    k0_pay41 h x10 (ix2 r c) = k0_pay39 h x10 (ix2 r ⟨c.val, by omega⟩) := by
  unfold k0_pay41
  pointwise

set_option backward.isDefEq.respectTransparency false in
theorem ld_a (x : Vec Ideal S1x192 .f32) (k : Fin 128) :
    View.ld x (Rect.unit ![0, 0] S1x128.size inb_S1x192_S1x128_0_0) (ix2 0 k) = x (ix2 0 ⟨k.val, by omega⟩) := by
  refine View.ld_unit_apply_of _ _ _ _ _ _ fun a => ?_
  fin_cases a
  · rfl
  · show k.val = 0 + k.val
    omega

theorem ld_b (x : Vec Ideal S1x192 .f32) (k : Fin 64) :
    View.ld x (Rect.unit ![0, 128] S1x64.size inb_S1x192_S1x64_0_128) (ix2 0 k) = x (ix2 0 ⟨128 + k.val, by omega⟩) := by
  refine View.ld_unit_apply_of _ _ _ _ _ _ fun a => ?_
  fin_cases a <;> rfl

/-- The cell from gates and biases read entry by entry. -/
theorem pay42_cell (h : Vec Ideal S5888x64 .f32) (gi gh : FVec Ideal S5888x192 .f32) (gi' gh' : FVec Ideal S5888x128 .f32)
    (b : Vec Ideal S1x128 .f32) (bn hn : Vec Ideal S1x64 .f32) (r : Fin 5888) (k : Fin 64) (ai ah bi bh : Fin 192 → EReal)
    (hgi : ∀ c, gi (ix2 r c) = ai c) (hgh : ∀ c, gh (ix2 r c) = ah c)
    (hgi' : ∀ c : Fin 128, gi' (ix2 r c) = ai ⟨c.val, by omega⟩) (hgh' : ∀ c : Fin 128, gh' (ix2 r c) = ah ⟨c.val, by omega⟩)
    (hb : ∀ c : Fin 128, b (ix2 0 c) = bi ⟨c.val, by omega⟩ + bh ⟨c.val, by omega⟩)
    (hbn : ∀ c : Fin 64, bn (ix2 0 c) = bi ⟨128 + c.val, by omega⟩) (hhn : ∀ c : Fin 64, hn (ix2 0 c) = bh ⟨128 + c.val, by omega⟩) :
    k0_pay42 h gi gh gi' gh' b bn hn (ix2 r k) = cellH ai ah bi bh (h (ix2 r k)) k := by
  rw [pay42_apply]
  unfold cellH
  simp only [hgi, hgh, hgi', hgh', hb, hbn, hhn, add_add_add_comm]

theorem kH_apply (A : Vec Ideal S184x184 .bf16) (h : Vec Ideal S5888x64 .f32) (xn : Vec Ideal S5888x29 .bf16)
    (x0 : Vec Ideal S32x1x184x29 .bf16) (x4 x5 : Vec Ideal S29x64 .bf16) (x6 : Vec Ideal S1x64 .f32) (x7 : Vec Ideal S29x192 .bf16)
    (x8 : Vec Ideal S64x192 .bf16) (x9 : Vec Ideal S1x192 .f32) (x10 : Vec Ideal S64x192 .bf16) (x11 : Vec Ideal S1x192 .f32)
    (r : Fin 5888) (k : Fin 64) (ai ah bi bh : Fin 192 → EReal)
    (hai : ∀ c, kGi A xn x0 x4 x5 x6 x7 x8 (ix2 r c) = ai c) (hah : ∀ c, k0_pay39 h x10 (ix2 r c) = ah c)
    (hb : ∀ c : Fin 192, c.val < 128 → x9 (ix2 0 c) = bi c + bh c) (hbn : ∀ c : Fin 192, 128 ≤ c.val → x9 (ix2 0 c) = bi c)
    (hbh : ∀ c : Fin 192, x11 (ix2 0 c) = bh c) :
    kH A h xn x0 x4 x5 x6 x7 x8 x9 x10 x11 (ix2 r k) = cellH ai ah bi bh (h (ix2 r k)) k := by
  exact pay42_cell h _ _ _ _ _ _ _ r k ai ah bi bh hai hah (fun c => (gi128_apply A xn x0 x4 x5 x6 x7 x8 r c).trans (hai _))
    (fun c => (pay41_apply h x10 r c).trans (hah _)) (fun c => (ld_a x9 c).trans (hb ⟨c.val, by omega⟩ c.isLt))
    (fun c => (ld_b x9 c).trans (hbn ⟨128 + c.val, by omega⟩ (Nat.le_add_right _ _))) (fun c => (ld_b x11 c).trans (hbh _))

theorem kY_apply (A : Vec Ideal S184x184 .bf16) (h : Vec Ideal S5888x64 .f32) (xn : Vec Ideal S5888x29 .bf16)
    (x0 : Vec Ideal S32x1x184x29 .bf16) (x4 x5 : Vec Ideal S29x64 .bf16) (x6 : Vec Ideal S1x64 .f32) (x7 : Vec Ideal S29x192 .bf16)
    (x8 : Vec Ideal S64x192 .bf16) (x9 : Vec Ideal S1x192 .f32) (x10 : Vec Ideal S64x192 .bf16) (x11 : Vec Ideal S1x192 .f32)
    (x12 : Vec Ideal S64x29 .bf16) (r : Fin 5888) (q : Fin 29) :
    kY A h xn x0 x4 x5 x6 x7 x8 x9 x10 x11 x12 (ix2 r q)
      = ∑ k : Fin 64, kH A h xn x0 x4 x5 x6 x7 x8 x9 x10 x11 (ix2 r k) * x12 (ix2 k q) := by
  unfold kY kH k0_pay43
  pointwise

theorem kXn_apply (A : Vec Ideal S184x184 .bf16) (h : Vec Ideal S5888x64 .f32) (xn : Vec Ideal S5888x29 .bf16)
    (x0 : Vec Ideal S32x1x184x29 .bf16) (x4 x5 : Vec Ideal S29x64 .bf16) (x6 : Vec Ideal S1x64 .f32) (x7 : Vec Ideal S29x192 .bf16)
    (x8 : Vec Ideal S64x192 .bf16) (x9 : Vec Ideal S1x192 .f32) (x10 : Vec Ideal S64x192 .bf16) (x11 : Vec Ideal S1x192 .f32)
    (x12 : Vec Ideal S64x29 .bf16) :
    kXn A h xn x0 x4 x5 x6 x7 x8 x9 x10 x11 x12 = kY A h xn x0 x4 x5 x6 x7 x8 x9 x10 x11 x12 := rfl

theorem row_swap (b : Fin 32) (n : Fin 184) (h : b.val * 184 + n.val < 5888) : (⟨b.val * 184 + n.val, h⟩ : Fin 5888) = row b n :=
  Fin.ext (by show b.val * 184 + n.val = 184 * b.val + n.val; omega)

theorem pay2_apply (h : FVec Ideal S5888x64 .f32) (b : Fin 32) (n : Fin 184) (k : Fin 64) :
    k0_pay2 h (ix4 b 0 n k) = h (ix2 (row b n) k) := by
  unfold k0_pay2
  pointwise
  rw [row_swap]

theorem pay3_apply (y : FVec Ideal S5888x29 .f32) (x13 : Vec Ideal S1x1 .f32) (b : Fin 32) (n : Fin 184) :
    k0_pay3 y x13 (ix4 b 0 n 0) = y (ix2 (row b n) 0) + x13 (ix2 0 0) := by
  unfold k0_pay3
  pointwise
  rw [row_swap]

theorem pay5_apply (r : Fin 5888) (k : Fin 64) : (k0_pay5 (F := Ideal)) (ix2 r k) = 0 := by
  unfold k0_pay5
  pointwise

theorem pay6_apply (r : Fin 5888) (q : Fin 29) : (k0_pay6 (F := Ideal)) (ix2 r q) = 0 := by
  unfold k0_pay6
  pointwise

theorem pay4_apply (d : Vec Ideal S1x3712 .i32) (s : Vec Ideal S3712x1 .i32) (w : Vec Ideal S3712x1 .f32) (n m : Fin 184) :
    k0_pay4 d s w (ix2 n m) = ∑ e : Fin 3712, (if d (ix2 0 e) = BitVec.ofNat 32 n.val then (1 : EReal) else 0)
        * (if s (ix2 e 0) = BitVec.ofNat 32 m.val then w (ix2 e 0) else 0) := by
  unfold k0_pay4
  pointwise
  refine Finset.sum_congr rfl fun e _ => ?_
  have hs : ∀ (p : Prop) [Decidable p], (FloatOps.sitofp .f32 (BitVec.setWidth 32 (BitVec.ofBool (decide p))) : Ideal .f32) = if p then 1 else 0 := by
    intro p _
    show ((((BitVec.setWidth 32 (BitVec.ofBool (decide p))).toInt : ℤ) : ℝ) : EReal) = _
    by_cases hp : p <;> simp [hp]
  rw [WordCmp.cmpi_eq_eq, WordCmp.cmpi_eq_eq, hs]
  unfold Scalar.select
  have h1 : (BitVec.ofNat 32 n.val = d (ix2 0 e)) = (d (ix2 0 e) = BitVec.ofNat 32 n.val) := propext eq_comm
  have h2 : (BitVec.ofNat 32 m.val = s (ix2 e 0)) = (s (ix2 e 0) = BitVec.ofNat 32 m.val) := propext eq_comm
  simp only [h1, h2]
  by_cases h : s (ix2 e 0) = BitVec.ofNat 32 m.val <;> simp [h]

end Cert.Proof.KIdeal

end
-- ==== Proof.Host.lean ====
/- What the kernel's operand arrays hold when the pipelined region is entered, and what each block delivers. -/
module

public import proofs.«01_k».proof.Proof.KIdeal
public import Idealize.ShloMosaic.Lib.StableHlo.Run

@[expose] public section

set_option maxRecDepth 16384

noncomputable section

namespace Cert.Proof.Host

open Cert.KernelIdeal Cert.KernelIdeal.Gen
open Idealize.ShloMosaic Idealize.ShloMosaic.TcCoe Idealize.SL.Sem

section Arrays

variable {F : FTy → Type} [FloatOps F]
variable (m : (ℓ : Loc nD τ sig) → Buf (Elt F) ℓ) (c : Dev nD)

theorem V_v2 : V m c main_v2 = shapeCast S3712x1 (pad S3712 ![0] ![91] ![0] (extractStridedSlice S3621 ![0] (m ((c : Thread nD τ).loc main_arg11)) slices_S115872_S3621_0) (id (constantI S_ 32 0#32)) pads_S3621_S3712_0910 h_S_) shapeCasts_S3712_S3712x1 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v5 : V m c main_v5 = shapeCast S1x3712 (pad S3712 ![0] ![91] ![0] (extractStridedSlice S3621 ![0] (m ((c : Thread nD τ).loc main_arg12)) slices_S115872_S3621_0) (id (constantI S_ 32 4294967295#32)) pads_S3621_S3712_0910 h_S_) shapeCasts_S3712_S1x3712 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v8 : V m c main_v8 = shapeCast S3712x1 (pad S3712 ![0] ![91] ![0] (extractStridedSlice S3621 ![0] (m ((c : Thread nD τ).loc main_arg13)) slices_S115872_S3621_0) (sitofp .f32 (constantI S_ 32 0#32)) pads_S3621_S3712_0910 h_S_) shapeCasts_S3712_S3712x1 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v13 : V m c main_v13 = truncf .bf16 (concatenate S32x24x184x29 3 [⟨S32x24x184x1, broadcastInDim S32x24x184x1 ![] bcast_S_S32x24x184x1 (constant S_ .f32 0x00000000#32)⟩, ⟨S32x24x184x1, extractStridedSlice S32x24x184x1 ![0, 0, 0, 0] (m ((c : Thread nD τ).loc main_arg1)) slices_S32x48x184x1_S32x24x184x1_0_0_0_0⟩, ⟨S32x24x184x27, extractStridedSlice S32x24x184x27 ![0, 0, 0, 0] (m ((c : Thread nD τ).loc main_arg0)) slices_S32x48x184x27_S32x24x184x27_0_0_0_0⟩] concatenates_S32x24x184x1_S32x24x184x1_S32x24x184x27_S32x24x184x29_d3) bitsLt_bf16_f32 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v16 : V m c main_v16 = truncf .bf16 (m ((c : Thread nD τ).loc main_arg2)) bitsLt_bf16_f32 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v17 : V m c main_v17 = truncf .bf16 (m ((c : Thread nD τ).loc main_arg3)) bitsLt_bf16_f32 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v18 : V m c main_v18 = shapeCast S1x64 (m ((c : Thread nD τ).loc main_arg4)) shapeCasts_S64_S1x64 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v20 : V m c main_v20 = truncf .bf16 (extractStridedSlice S29x192 ![0, 0] (m ((c : Thread nD τ).loc main_arg5)) slices_S93x192_S29x192_0_0) bitsLt_bf16_f32 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v22 : V m c main_v22 = truncf .bf16 (extractStridedSlice S64x192 ![29, 0] (m ((c : Thread nD τ).loc main_arg5)) slices_S93x192_S64x192_29_0) bitsLt_bf16_f32 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v27 : V m c main_v27 = shapeCast S1x192 (concatenate S192 0 [⟨S128, extractStridedSlice S128 ![0] (addf (m ((c : Thread nD τ).loc main_arg7)) (m ((c : Thread nD τ).loc main_arg8))) slices_S192_S128_0⟩, ⟨S64, extractStridedSlice S64 ![128] (m ((c : Thread nD τ).loc main_arg7)) slices_S192_S64_128⟩] concatenates_S128_S64_S192_d0) shapeCasts_S192_S1x192 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v28 : V m c main_v28 = truncf .bf16 (m ((c : Thread nD τ).loc main_arg6)) bitsLt_bf16_f32 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v29 : V m c main_v29 = shapeCast S1x192 (m ((c : Thread nD τ).loc main_arg8)) shapeCasts_S192_S1x192 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v30 : V m c main_v30 = truncf .bf16 (concatenate S64x29 1 [⟨S64x1, (m ((c : Thread nD τ).loc main_arg9))⟩, ⟨S64x28, broadcastInDim S64x28 ![] bcast_S_S64x28 (constant S_ .f32 0x00000000#32)⟩] concatenates_S64x1_S64x28_S64x29_d1) bitsLt_bf16_f32 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

theorem V_v31 : V m c main_v31 = shapeCast S1x1 (m ((c : Thread nD τ).loc main_arg10)) shapeCasts_S1_S1x1 := by
  show StableHlo.after (List.flatten [hostOps0, hostOps0_1, hostOps0_2, hostOps0_3, hostOps0_4, hostOps0_5, hostOps0_6]) _ (Proc.devRef .tc _) = _
  simp only [hostOps0, hostOps0_1, hostOps0_2, hostOps0_3, hostOps0_4, hostOps0_5, hostOps0_6, List.flatten_cons, List.flatten_nil, List.append_nil, List.cons_append, List.nil_append]
  after_results
  all_goals rfl

/-! ## The blocks -/

theorem idx1 : ∀ t : Fin cfg0.N, win0_1.index t (0 : Fin 2) = 0 ∧ win0_1.index t (1 : Fin 2) = 0 :=
  (by decide +kernel : ∀ t : Fin grid0.N, _)
theorem emb1 (t : Fin cfg0.N) (j : S1x3712.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 3712 + 1 * (j 1).val = (j 1).val; omega
theorem iblk1_eq (t : Fin cfg0.N) : iblk m c 1 t = V m c main_v5 :=
  funext fun j => congrArg (V m c main_v5) (emb1 t j)

theorem idx2 : ∀ t : Fin cfg0.N, win0_2.index t (0 : Fin 2) = 0 ∧ win0_2.index t (1 : Fin 2) = 0 :=
  (by decide +kernel : ∀ t : Fin grid0.N, _)
theorem emb2 (t : Fin cfg0.N) (j : S3712x1.Idx) : ((cfg0.win 2).blk t).view.emb j = j := by
  obtain ⟨e0, e1⟩ := idx2 t
  funext a; apply Fin.ext
  match a with
  | ⟨0, _⟩ => show win0_2.index t (0 : Fin 2) * 3712 + 1 * (j 0).val = (j 0).val; omega
  | ⟨1, _⟩ => show win0_2.index t (1 : Fin 2) * 1 + 1 * (j 1).val = (j 1).val; omega
theorem iblk2_eq (t : Fin cfg0.N) : iblk m c 2 t = V m c main_v2 :=
  funext fun j => congrArg (V m c main_v2) (emb2 t j)

theorem idx3 : ∀ t : Fin cfg0.N, win0_3.index t (0 : Fin 2) = 0 ∧ win0_3.index t (1 : Fin 2) = 0 :=
  (by decide +kernel : ∀ t : Fin grid0.N, _)
theorem emb3 (t : Fin cfg0.N) (j : S3712x1.Idx) : ((cfg0.win 3).blk t).view.emb j = j := by
  obtain ⟨e0, e1⟩ := idx3 t
  funext a; apply Fin.ext
  match a with
  | ⟨0, _⟩ => show win0_3.index t (0 : Fin 2) * 3712 + 1 * (j 0).val = (j 0).val; omega
  | ⟨1, _⟩ => show win0_3.index t (1 : Fin 2) * 1 + 1 * (j 1).val = (j 1).val; omega
theorem iblk3_eq (t : Fin cfg0.N) : iblk m c 3 t = V m c main_v8 :=
  funext fun j => congrArg (V m c main_v8) (emb3 t j)

theorem idx4 : ∀ t : Fin cfg0.N, win0_4.index t (0 : Fin 2) = 0 ∧ win0_4.index t (1 : Fin 2) = 0 :=
  (by decide +kernel : ∀ t : Fin grid0.N, _)
theorem emb4 (t : Fin cfg0.N) (j : S29x64.Idx) : ((cfg0.win 4).blk t).view.emb j = j := by
  obtain ⟨e0, e1⟩ := idx4 t
  funext a; apply Fin.ext
  match a with
  | ⟨0, _⟩ => show win0_4.index t (0 : Fin 2) * 29 + 1 * (j 0).val = (j 0).val; omega
  | ⟨1, _⟩ => show win0_4.index t (1 : Fin 2) * 64 + 1 * (j 1).val = (j 1).val; omega
theorem iblk4_eq (t : Fin cfg0.N) : iblk m c 4 t = V m c main_v16 :=
  funext fun j => congrArg (V m c main_v16) (emb4 t j)

theorem idx5 : ∀ t : Fin cfg0.N, win0_5.index t (0 : Fin 2) = 0 ∧ win0_5.index t (1 : Fin 2) = 0 :=
  (by decide +kernel : ∀ t : Fin grid0.N, _)
theorem emb5 (t : Fin cfg0.N) (j : S29x64.Idx) : ((cfg0.win 5).blk t).view.emb j = j := by
  obtain ⟨e0, e1⟩ := idx5 t
  funext a; apply Fin.ext
  match a with
  | ⟨0, _⟩ => show win0_5.index t (0 : Fin 2) * 29 + 1 * (j 0).val = (j 0).val; omega
  | ⟨1, _⟩ => show win0_5.index t (1 : Fin 2) * 64 + 1 * (j 1).val = (j 1).val; omega
theorem iblk5_eq (t : Fin cfg0.N) : iblk m c 5 t = V m c main_v17 :=
  funext fun j => congrArg (V m c main_v17) (emb5 t j)

theorem idx6 : ∀ t : Fin cfg0.N, win0_6.index t (0 : Fin 2) = 0 ∧ win0_6.index t (1 : Fin 2) = 0 :=
  (by decide +kernel : ∀ t : Fin grid0.N, _)
theorem emb6 (t : Fin cfg0.N) (j : S1x64.Idx) : ((cfg0.win 6).blk t).view.emb j = j := by
  obtain ⟨e0, e1⟩ := idx6 t
  funext a; apply Fin.ext
  match a with
  | ⟨0, _⟩ => show win0_6.index t (0 : Fin 2) * 1 + 1 * (j 0).val = (j 0).val; omega
  | ⟨1, _⟩ => show win0_6.index t (1 : Fin 2) * 64 + 1 * (j 1).val = (j 1).val; omega
theorem iblk6_eq (t : Fin cfg0.N) : iblk m c 6 t = V m c main_v18 :=
  funext fun j => congrArg (V m c main_v18) (emb6 t j)

theorem idx7 : ∀ t : Fin cfg0.N, win0_7.index t (0 : Fin 2) = 0 ∧ win0_7.index t (1 : Fin 2) = 0 :=
  (by decide +kernel : ∀ t : Fin grid0.N, _)
theorem emb7 (t : Fin cfg0.N) (j : S29x192.Idx) : ((cfg0.win 7).blk t).view.emb j = j := by
  obtain ⟨e0, e1⟩ := idx7 t
  funext a; apply Fin.ext
  match a with
  | ⟨0, _⟩ => show win0_7.index t (0 : Fin 2) * 29 + 1 * (j 0).val = (j 0).val; omega
  | ⟨1, _⟩ => show win0_7.index t (1 : Fin 2) * 192 + 1 * (j 1).val = (j 1).val; omega
theorem iblk7_eq (t : Fin cfg0.N) : iblk m c 7 t = V m c main_v20 :=
  funext fun j => congrArg (V m c main_v20) (emb7 t j)

theorem idx8 : ∀ t : Fin cfg0.N, win0_8.index t (0 : Fin 2) = 0 ∧ win0_8.index t (1 : Fin 2) = 0 :=
  (by decide +kernel : ∀ t : Fin grid0.N, _)
theorem emb8 (t : Fin cfg0.N) (j : S64x192.Idx) : ((cfg0.win 8).blk t).view.emb j = j := by
  obtain ⟨e0, e1⟩ := idx8 t
  funext a; apply Fin.ext
  match a with
  | ⟨0, _⟩ => show win0_8.index t (0 : Fin 2) * 64 + 1 * (j 0).val = (j 0).val; omega
  | ⟨1, _⟩ => show win0_8.index t (1 : Fin 2) * 192 + 1 * (j 1).val = (j 1).val; omega
theorem iblk8_eq (t : Fin cfg0.N) : iblk m c 8 t = V m c main_v22 :=
  funext fun j => congrArg (V m c main_v22) (emb8 t j)

theorem idx9 : ∀ t : Fin cfg0.N, win0_9.index t (0 : Fin 2) = 0 ∧ win0_9.index t (1 : Fin 2) = 0 :=
  (by decide +kernel : ∀ t : Fin grid0.N, _)
theorem emb9 (t : Fin cfg0.N) (j : S1x192.Idx) : ((cfg0.win 9).blk t).view.emb j = j := by
  obtain ⟨e0, e1⟩ := idx9 t
  funext a; apply Fin.ext
  match a with
  | ⟨0, _⟩ => show win0_9.index t (0 : Fin 2) * 1 + 1 * (j 0).val = (j 0).val; omega
  | ⟨1, _⟩ => show win0_9.index t (1 : Fin 2) * 192 + 1 * (j 1).val = (j 1).val; omega
theorem iblk9_eq (t : Fin cfg0.N) : iblk m c 9 t = V m c main_v27 :=
  funext fun j => congrArg (V m c main_v27) (emb9 t j)

theorem idx10 : ∀ t : Fin cfg0.N, win0_10.index t (0 : Fin 2) = 0 ∧ win0_10.index t (1 : Fin 2) = 0 :=
  (by decide +kernel : ∀ t : Fin grid0.N, _)
theorem emb10 (t : Fin cfg0.N) (j : S64x192.Idx) : ((cfg0.win 10).blk t).view.emb j = j := by
  obtain ⟨e0, e1⟩ := idx10 t
  funext a; apply Fin.ext
  match a with
  | ⟨0, _⟩ => show win0_10.index t (0 : Fin 2) * 64 + 1 * (j 0).val = (j 0).val; omega
  | ⟨1, _⟩ => show win0_10.index t (1 : Fin 2) * 192 + 1 * (j 1).val = (j 1).val; omega
theorem iblk10_eq (t : Fin cfg0.N) : iblk m c 10 t = V m c main_v28 :=
  funext fun j => congrArg (V m c main_v28) (emb10 t j)

theorem idx11 : ∀ t : Fin cfg0.N, win0_11.index t (0 : Fin 2) = 0 ∧ win0_11.index t (1 : Fin 2) = 0 :=
  (by decide +kernel : ∀ t : Fin grid0.N, _)
theorem emb11 (t : Fin cfg0.N) (j : S1x192.Idx) : ((cfg0.win 11).blk t).view.emb j = j := by
  obtain ⟨e0, e1⟩ := idx11 t
  funext a; apply Fin.ext
  match a with
  | ⟨0, _⟩ => show win0_11.index t (0 : Fin 2) * 1 + 1 * (j 0).val = (j 0).val; omega
  | ⟨1, _⟩ => show win0_11.index t (1 : Fin 2) * 192 + 1 * (j 1).val = (j 1).val; omega
theorem iblk11_eq (t : Fin cfg0.N) : iblk m c 11 t = V m c main_v29 :=
  funext fun j => congrArg (V m c main_v29) (emb11 t j)

theorem idx12 : ∀ t : Fin cfg0.N, win0_12.index t (0 : Fin 2) = 0 ∧ win0_12.index t (1 : Fin 2) = 0 :=
  (by decide +kernel : ∀ t : Fin grid0.N, _)
theorem emb12 (t : Fin cfg0.N) (j : S64x29.Idx) : ((cfg0.win 12).blk t).view.emb j = j := by
  obtain ⟨e0, e1⟩ := idx12 t
  funext a; apply Fin.ext
  match a with
  | ⟨0, _⟩ => show win0_12.index t (0 : Fin 2) * 64 + 1 * (j 0).val = (j 0).val; omega
  | ⟨1, _⟩ => show win0_12.index t (1 : Fin 2) * 29 + 1 * (j 1).val = (j 1).val; omega
theorem iblk12_eq (t : Fin cfg0.N) : iblk m c 12 t = V m c main_v30 :=
  funext fun j => congrArg (V m c main_v30) (emb12 t j)

theorem idx13 : ∀ t : Fin cfg0.N, win0_13.index t (0 : Fin 2) = 0 ∧ win0_13.index t (1 : Fin 2) = 0 :=
  (by decide +kernel : ∀ t : Fin grid0.N, _)
theorem emb13 (t : Fin cfg0.N) (j : S1x1.Idx) : ((cfg0.win 13).blk t).view.emb j = j := by
  obtain ⟨e0, e1⟩ := idx13 t
  funext a; apply Fin.ext
  match a with
  | ⟨0, _⟩ => show win0_13.index t (0 : Fin 2) * 1 + 1 * (j 0).val = (j 0).val; omega
  | ⟨1, _⟩ => show win0_13.index t (1 : Fin 2) * 1 + 1 * (j 1).val = (j 1).val; omega
theorem iblk13_eq (t : Fin cfg0.N) : iblk m c 13 t = V m c main_v31 :=
  funext fun j => congrArg (V m c main_v31) (emb13 t j)

theorem idx0 : ∀ t : Fin cfg0.N, win0_0.index t (0 : Fin 4) = 0 ∧ win0_0.index t (1 : Fin 4) = t.val ∧ win0_0.index t (2 : Fin 4) = 0
    ∧ win0_0.index t (3 : Fin 4) = 0 :=
  (by decide +kernel : ∀ t : Fin grid0.N, _)
theorem lt_N (t : Fin cfg0.N) : t.val < 24 := t.isLt
theorem emb0 (t : Fin cfg0.N) (b : Fin 32) (n : Fin 184) (q : Fin 29) :
    ((cfg0.win 0).blk t).view.emb (ix4 b (0 : Fin 1) n q) = ix4 b (⟨t.val, lt_N t⟩ : Fin 24) n q := by
  obtain ⟨e0, e1, e2, e3⟩ := idx0 t
  funext a; apply Fin.ext
  match a with
  | ⟨0, _⟩ => show win0_0.index t (0 : Fin 4) * 32 + 1 * b.val = b.val; omega
  | ⟨1, _⟩ => show win0_0.index t (1 : Fin 4) * 1 + 1 * 0 = t.val; omega
  | ⟨2, _⟩ => show win0_0.index t (2 : Fin 4) * 184 + 1 * n.val = n.val; omega
  | ⟨3, _⟩ => show win0_0.index t (3 : Fin 4) * 29 + 1 * q.val = q.val; omega
theorem iblk0_apply (t : Fin cfg0.N) (b : Fin 32) (n : Fin 184) (q : Fin 29) :
    iblk m c 0 t (ix4 b (0 : Fin 1) n q) = V m c main_v13 (ix4 b (⟨t.val, lt_N t⟩ : Fin 24) n q) :=
  congrArg (V m c main_v13) (emb0 t b n q)

end Arrays

/-! ## The arrays by coordinates, at the extended reals -/

section Entries

open Cert.Proof.Spec

variable (m : (ℓ : Loc nD τ sig) → Buf (Elt Ideal) ℓ) (c : Dev nD)

/-- The kernel's arguments by coordinates. -/
def inp : Inp where
  X b t n q := m ((c : Thread nD τ).loc main_arg0) (ix4 b t n q)
  y b t n := m ((c : Thread nD τ).loc main_arg1) (ix4 b t n (0 : Fin 1))
  Wrel q k := m ((c : Thread nD τ).loc main_arg2) (ix2 q k)
  Wroot q k := m ((c : Thread nD τ).loc main_arg3) (ix2 q k)
  bconv k := m ((c : Thread nD τ).loc main_arg4) (ix1 k)
  Wih q k := m ((c : Thread nD τ).loc main_arg5) (ix2 q k)
  Whh q k := m ((c : Thread nD τ).loc main_arg6) (ix2 q k)
  bih k := m ((c : Thread nD τ).loc main_arg7) (ix1 k)
  bhh k := m ((c : Thread nD τ).loc main_arg8) (ix1 k)
  Wout k := m ((c : Thread nD τ).loc main_arg9) (ix2 k (0 : Fin 1))
  bout := m ((c : Thread nD τ).loc main_arg10) (ix1 (0 : Fin 1))
  src e := m ((c : Thread nD τ).loc main_arg11) (ix1 e)
  dst e := m ((c : Thread nD τ).loc main_arg12) (ix1 e)
  w e := m ((c : Thread nD τ).loc main_arg13) (ix1 e)

theorem E_v2 (e : Fin 3712) : V m c main_v2 (ix2 e (0 : Fin 1)) = if h : e.val < 3621 then (inp m c).src (edge 0 ⟨e.val, h⟩) else 0#32 := by
  rw [V_v2]
  pointwise
  refine dite_congr rfl (fun h => ?_) (fun h => rfl)
  · exact congrArg (fun i => m ((c : Thread nD τ).loc main_arg11) (ix1 i)) (Fin.ext (by simp [edge]))

theorem E_v5 (e : Fin 3712) : V m c main_v5 (ix2 (0 : Fin 1) e) = if h : e.val < 3621 then (inp m c).dst (edge 0 ⟨e.val, h⟩) else 4294967295#32 := by
  rw [V_v5]
  pointwise
  refine dite_congr rfl (fun h => ?_) (fun h => rfl)
  · exact congrArg (fun i => m ((c : Thread nD τ).loc main_arg12) (ix1 i)) (Fin.ext (by simp [edge]))

theorem E_v8 (e : Fin 3712) : V m c main_v8 (ix2 e (0 : Fin 1)) = if h : e.val < 3621 then (inp m c).w (edge 0 ⟨e.val, h⟩) else 0 := by
  rw [V_v8]
  pointwise
  refine dite_congr rfl (fun h => ?_) (fun h => ?_)
  · exact congrArg (fun i => m ((c : Thread nD τ).loc main_arg13) (ix1 i)) (Fin.ext (by simp [edge]))
  · show (((0#32 : BitVec 32).toInt : ℝ) : EReal) = 0
    simp

theorem E_v13 (b : Fin 32) (t : Fin 24) (n : Fin 184) (q : Fin 29) : V m c main_v13 (ix4 b t n q) = if q.val = 0 then 0 else if q.val = 1 then (inp m c).y b ⟨t.val, by omega⟩ n else (inp m c).X b ⟨t.val, by omega⟩ n ⟨(q.val - 2) % 27, by omega⟩ := by
  rw [V_v13]
  pointwise
  by_cases h0 : q.val = 0
  · rw [dif_pos (by omega), if_pos h0]
  · rw [dif_neg (by omega), if_neg h0]
    by_cases h1 : q.val = 1
    · rw [dif_pos (by omega), if_pos h1]
      exact congrArg (fun i => m ((c : Thread nD τ).loc main_arg1) (ix4 b _ n i)) (Subsingleton.elim _ _)
    · rw [dif_neg (by omega), if_neg h1]
      exact congrArg (fun i => m ((c : Thread nD τ).loc main_arg0) (ix4 b _ n i)) (Fin.ext (by
        show q.val - 1 - 1 = (q.val - 2) % 27
        omega))

theorem E_v16 (q : Fin 29) (k : Fin 64) : V m c main_v16 (ix2 q k) = (inp m c).Wrel q k := by
  rw [V_v16]
  pointwise
  rfl

theorem E_v17 (q : Fin 29) (k : Fin 64) : V m c main_v17 (ix2 q k) = (inp m c).Wroot q k := by
  rw [V_v17]
  pointwise
  rfl

theorem E_v18 (k : Fin 64) : V m c main_v18 (ix2 (0 : Fin 1) k) = (inp m c).bconv k := by
  rw [V_v18]
  pointwise
  rfl

theorem E_v20 (q : Fin 29) (k : Fin 192) : V m c main_v20 (ix2 q k) = (inp m c).Wih ⟨q.val, by omega⟩ k := by
  rw [V_v20]
  pointwise
  rfl

theorem E_v22 (q : Fin 64) (k : Fin 192) : V m c main_v22 (ix2 q k) = (inp m c).Wih ⟨29 + q.val, by omega⟩ k := by
  rw [V_v22]
  pointwise
  rfl

theorem E_v27 (k : Fin 192) : V m c main_v27 (ix2 (0 : Fin 1) k) = if k.val < 128 then (inp m c).bih k + (inp m c).bhh k else (inp m c).bih k := by
  rw [V_v27]
  pointwise
  by_cases h0 : k.val < 128
  · rw [dif_pos h0, if_pos h0]; rfl
  · rw [dif_neg h0, if_neg h0]
    exact congrArg (fun i => m ((c : Thread nD τ).loc main_arg7) (ix1 i)) (Fin.ext (by show 128 + (k.val - 128) = k.val; omega))

theorem E_v28 (q : Fin 64) (k : Fin 192) : V m c main_v28 (ix2 q k) = (inp m c).Whh q k := by
  rw [V_v28]
  pointwise
  rfl

theorem E_v29 (k : Fin 192) : V m c main_v29 (ix2 (0 : Fin 1) k) = (inp m c).bhh k := by
  rw [V_v29]
  pointwise
  rfl

theorem E_v30 (q : Fin 64) (k : Fin 29) : V m c main_v30 (ix2 q k) = if k.val = 0 then (inp m c).Wout q else 0 := by
  rw [V_v30]
  pointwise
  by_cases h0 : k.val = 0
  · rw [dif_pos (by omega), if_pos h0]
    exact congrArg (fun i => m ((c : Thread nD τ).loc main_arg9) (ix2 q i)) (Subsingleton.elim _ _)
  · rw [dif_neg (by omega), if_neg h0]

theorem E_v31  : V m c main_v31 (ix2 (0 : Fin 1) (0 : Fin 1)) = (inp m c).bout := by
  rw [V_v31]
  pointwise
  rfl

end Entries

end Cert.Proof.Host
-- ==== Proof.KRun.lean ====
/- The kernel's run: after each step the carried scratch holds the graph's adjacency, the state and the column of the recurrence. -/
module

public import proofs.«01_k».proof.Proof.Host
public import proofs.«01_k».proof.Proof.Gen.KernelIdeal.Value

@[expose] public section

set_option maxRecDepth 16384

noncomputable section

namespace Cert.Proof.KRun

open Cert.KernelIdeal Cert.KernelIdeal.Gen Cert.Proof.Spec Cert.Proof.KStep Cert.Proof.KIdeal Cert.Proof.Host
open Idealize.ShloMosaic Idealize.ShloMosaic.TcCoe Idealize.SL.Sem

variable (m : (ℓ : Loc nD τ sig) → Buf (Elt Ideal) ℓ) (c : Dev nD)

/-- A word below 184 is a node's number iff its value is. -/
theorem word_iff (d : BitVec 32) (hd : d.toNat < 184) (n : Fin 184) :
    d = BitVec.ofNat 32 n.val ↔ (⟨d.toNat % 184, by omega⟩ : Fin 184) = n := by
  rw [← BitVec.toNat_inj, BitVec.toNat_ofNat, Fin.ext_iff]
  have := n.isLt
  show d.toNat = n.val % 2 ^ 32 ↔ d.toNat % 184 = n.val
  omega

theorem word_pad (n : Fin 184) : (4294967295#32 : BitVec 32) ≠ BitVec.ofNat 32 n.val := by
  rw [Ne, ← BitVec.toNat_inj, BitVec.toNat_ofNat]
  have := n.isLt
  show ¬ 4294967295 = n.val % 2 ^ 32
  omega

/-- The adjacency: the weights of the edges from `k` to `n`. -/
def adj (I : Inp) (n k : Fin 184) : EReal :=
  ∑ e : Fin 3621, (if dst0 I e = n then 1 else 0) * (if src0 I e = k then I.w (edge 0 e) else 0)

/-- Edge lists with the first graph's edges and padding without a target give the adjacency. -/
theorem pay4_of (I : Inp) (ok : Ok I) (D : Vec Ideal S1x3712 .i32) (S : Vec Ideal S3712x1 .i32) (W : Vec Ideal S3712x1 .f32)
    (hD : ∀ e : Fin 3712, D (ix2 0 e) = if h : e.val < 3621 then I.dst (edge 0 ⟨e.val, h⟩) else 4294967295#32)
    (hS : ∀ e : Fin 3712, S (ix2 e 0) = if h : e.val < 3621 then I.src (edge 0 ⟨e.val, h⟩) else 0#32)
    (hW : ∀ e : Fin 3712, W (ix2 e 0) = if h : e.val < 3621 then I.w (edge 0 ⟨e.val, h⟩) else 0) (n k : Fin 184) :
    k0_pay4 D S W (ix2 n k) = adj I n k := by
  rw [pay4_apply]
  have h1 : ∀ e : Fin 3712, (if D (ix2 0 e) = BitVec.ofNat 32 n.val then (1 : EReal) else 0)
        * (if S (ix2 e 0) = BitVec.ofNat 32 k.val then W (ix2 e 0) else 0)
      = if h : e.val < 3621 then (if dst0 I ⟨e.val, h⟩ = n then 1 else 0) * (if src0 I ⟨e.val, h⟩ = k then I.w (edge 0 ⟨e.val, h⟩) else 0) else 0 := by
    intro e
    rw [hD, hS, hW]
    by_cases h : e.val < 3621
    · rw [dif_pos h, dif_pos h, dif_pos h, dif_pos h]
      exact congrArg₂ (· * ·) (if_congr (word_iff _ (ok.dst_lt _) n) rfl rfl) (if_congr (word_iff _ (ok.src_lt _) k) rfl rfl)
    · rw [dif_neg h, dif_neg h, dif_neg h, dif_neg h, if_neg (word_pad n), zero_mul]
  rw [Finset.sum_congr rfl fun e _ => h1 e]
  refine (Fin.sum_univ_add (a := 3621) (b := 91) (fun e : Fin (3621 + 91) =>
    if h : e.val < 3621 then (if dst0 I ⟨e.val, h⟩ = n then 1 else 0) * (if src0 I ⟨e.val, h⟩ = k then I.w (edge 0 ⟨e.val, h⟩) else 0) else 0)).trans ?_
  rw [Finset.sum_eq_zero (s := (Finset.univ : Finset (Fin 91))) fun e _ => dif_neg (by simp), add_zero]
  exact Finset.sum_congr rfl fun e _ => dif_pos e.isLt

/-- What the first point builds is the adjacency: the padding edges have no target. -/
theorem pay4_adj (ok : Ok (inp m c)) (n k : Fin 184) :
    k0_pay4 (V m c main_v5) (V m c main_v2) (V m c main_v8) (ix2 n k) = adj (inp m c) n k :=
  pay4_of (inp m c) ok (V m c main_v5) (V m c main_v2) (V m c main_v8) (E_v5 m c) (E_v2 m c) (E_v8 m c) n k

section Step

variable (ok : Ok (inp m c)) (t : Fin cfg0.N) (A : Vec Ideal S184x184 .bf16) (h : Vec Ideal S5888x64 .f32) (xn : Vec Ideal S5888x29 .bf16)
  (H : Fin 5888 → Fin 64 → EReal) (Xn : Fin 5888 → EReal)
  (hA : ∀ n k, A (ix2 n k) = adj (inp m c) n k) (hh : ∀ r k, h (ix2 r k) = H r k)
  (hx : ∀ r q, xn (ix2 r q) = if q.val = 0 then Xn r else 0)
  (hr : ∀ r q, IsR (xf (inp m c) t.val Xn r q))

include hx in
/-- A step's input rows: the block's column 0 is zero and the carried rows are zero off column 0. -/
theorem pay7_xf (r : Fin 5888) (q : Fin 29) : k0_pay7 (iblk m c 0 t) xn (ix2 r q) = xf (inp m c) t.val Xn r q := by
  have ht := lt_N t
  have e48 : ∀ hlt : t.val < 48, (⟨t.val, hlt⟩ : Fin 48) = at48 t.val := fun hlt => Fin.ext (Nat.mod_eq_of_lt hlt).symm
  rw [pay7_apply, iblk0_apply, E_v13, hx]
  unfold xf
  split
  · rw [zero_add]
  · split
    · rw [add_zero, e48]
    · rw [add_zero, e48]

include ok hA hx hr in
/-- The adjacency times the projected rows is the projection of the neighbours' weighted sums. -/
theorem kRg_agg (r : Fin 5888) (k : Fin 64) :
    kRg A (k0_pay8 (iblk m c 0 t) xn (V m c main_v16)) (ix2 r k)
      = ∑ q, agg (inp m c) (xf (inp m c) t.val Xn) r q * (inp m c).Wrel q k := by
  rw [kRg_apply]
  refine Eq.trans ?_ (rel_ereal (fun e => (inp m c).w (edge 0 e)) (src0 (inp m c)) (dst0 (inp m c))
    (fun n q => xf (inp m c) t.val Xn (row (gb r) n) q) (fun q => (inp m c).Wrel q k) (fun e => ok.w_r _) (fun n q => hr _ q)
    (fun q => ok.Wrel_r q k) (nd r))
  refine Finset.sum_congr rfl fun n _ => ?_
  rw [hA, pay8_apply]
  refine congrArg (adj (inp m c) (nd r) n * ·) (Finset.sum_congr rfl fun q _ => ?_)
  rw [pay7_xf m c t xn Xn hx, E_v16]

include ok hA hx hr in
theorem kGi_gi (r : Fin 5888) (k : Fin 192) :
    kGi A xn (iblk m c 0 t) (V m c main_v16) (V m c main_v17) (V m c main_v18) (V m c main_v20) (V m c main_v22) (ix2 r k)
      = gi (inp m c) (xf (inp m c) t.val Xn) r k := by
  rw [kGi_apply]
  unfold gi gcn
  refine congrArg₂ (· + ·) (Finset.sum_congr rfl fun q _ => ?_) (Finset.sum_congr rfl fun j _ => ?_)
  · rw [pay7_xf m c t xn Xn hx, E_v20]
  · rw [kRg_agg m c ok t A xn Xn hA hx hr, E_v22, E_v18]
    refine congrArg (fun z => Ideal.logistic (_ + z + _) * _) (Finset.sum_congr rfl fun q _ => ?_)
    rw [pay7_xf m c t xn Xn hx, E_v17]

include ok hA hh hx hr in
/-- The kernel's state after a step is the recurrence's. -/
theorem kH_next (r : Fin 5888) (k : Fin 64) :
    kH A h xn (iblk m c 0 t) (V m c main_v16) (V m c main_v17) (V m c main_v18) (V m c main_v20) (V m c main_v22) (V m c main_v27)
      (V m c main_v28) (V m c main_v29) (ix2 r k) = nextH (inp m c) t.val H Xn r k := by
  unfold nextH
  rw [← hh]
  refine kH_apply A h xn (iblk m c 0 t) (V m c main_v16) (V m c main_v17) (V m c main_v18) (V m c main_v20) (V m c main_v22) (V m c main_v27)
    (V m c main_v28) (V m c main_v29) r k _ _ _ _ (fun j => kGi_gi m c ok t A xn Xn hA hx hr r j) (fun j => ?_) (fun j hj => ?_) (fun j hj => ?_) (fun j => E_v29 m c j)
  · rw [pay39_apply]
    exact Finset.sum_congr rfl fun i _ => by rw [hh, E_v28]
  · rw [E_v27, if_pos hj]
  · rw [E_v27, if_neg (by omega)]

include ok hA hh hx hr in
/-- The product with the widened output weights is the recurrence's column in column 0 and zero elsewhere. -/
theorem kY_next (r : Fin 5888) (q : Fin 29) :
    kY A h xn (iblk m c 0 t) (V m c main_v16) (V m c main_v17) (V m c main_v18) (V m c main_v20) (V m c main_v22) (V m c main_v27)
      (V m c main_v28) (V m c main_v29) (V m c main_v30) (ix2 r q)
      = if q.val = 0 then nextX (inp m c) (nextH (inp m c) t.val H Xn) r else 0 := by
  rw [kY_apply]
  by_cases hq : q.val = 0
  · rw [if_pos hq]
    exact Finset.sum_congr rfl fun k _ => by rw [kH_next m c ok t A h xn H Xn hA hh hx hr, E_v30, if_pos hq]
  · rw [if_neg hq]
    exact Finset.sum_eq_zero fun k _ => by rw [E_v30, if_neg hq, mul_zero]

end Step

/-- What holds after step `t`: the two output blocks, the adjacency, the state, the column. -/
structure After (t : Fin cfg0.N) : Prop where
  o14 : ∀ b n k, (outsAt0 m c t.val t.isLt).1 (ix4 b 0 n k) = (st (inp m c) (t.val + 1)).1 (row b n) k
  o15 : ∀ b n, (outsAt0 m c t.val t.isLt).2.1 (ix4 b 0 n 0) = (st (inp m c) (t.val + 1)).2 (row b n)
  A : ∀ n k, (outsAt0 m c t.val t.isLt).2.2.1 (ix2 n k) = adj (inp m c) n k
  h : ∀ r k, (outsAt0 m c t.val t.isLt).2.2.2.1 (ix2 r k) = (st (inp m c) (t.val + 1)).1 r k
  xn : ∀ r q, (outsAt0 m c t.val t.isLt).2.2.2.2 (ix2 r q) = if q.val = 0 then (st (inp m c) (t.val + 1)).2 r else 0

/-- The five contents, from a step's operands. -/
theorem after_of (ok : Ok (inp m c)) (t : Fin cfg0.N) (A : Vec Ideal S184x184 .bf16) (h : Vec Ideal S5888x64 .f32) (xn : Vec Ideal S5888x29 .bf16)
    (hA : ∀ n k, A (ix2 n k) = adj (inp m c) n k) (hh : ∀ r k, h (ix2 r k) = (st (inp m c) t.val).1 r k)
    (hx : ∀ r q, xn (ix2 r q) = if q.val = 0 then (st (inp m c) t.val).2 r else 0)
    (e14 : (outsAt0 m c t.val t.isLt).1 = k0_pay2 (kH A h xn (iblk m c 0 t) (V m c main_v16) (V m c main_v17) (V m c main_v18)
      (V m c main_v20) (V m c main_v22) (V m c main_v27) (V m c main_v28) (V m c main_v29)))
    (e15 : (outsAt0 m c t.val t.isLt).2.1 = k0_pay3 (kY A h xn (iblk m c 0 t) (V m c main_v16) (V m c main_v17) (V m c main_v18)
      (V m c main_v20) (V m c main_v22) (V m c main_v27) (V m c main_v28) (V m c main_v29) (V m c main_v30)) (V m c main_v31))
    (eA : (outsAt0 m c t.val t.isLt).2.2.1 = A)
    (eh : (outsAt0 m c t.val t.isLt).2.2.2.1 = kH A h xn (iblk m c 0 t) (V m c main_v16) (V m c main_v17) (V m c main_v18)
      (V m c main_v20) (V m c main_v22) (V m c main_v27) (V m c main_v28) (V m c main_v29))
    (ex : (outsAt0 m c t.val t.isLt).2.2.2.2 = kXn A h xn (iblk m c 0 t) (V m c main_v16) (V m c main_v17) (V m c main_v18)
      (V m c main_v20) (V m c main_v22) (V m c main_v27) (V m c main_v28) (V m c main_v29) (V m c main_v30)) : After m c t := by
  have hr : ∀ r q, IsR (xf (inp m c) t.val (st (inp m c) t.val).2 r q) := fun r q => isR_xf _ ok t.val (lt_N t) r q
  refine ⟨fun b n k => ?_, fun b n => ?_, fun n k => ?_, fun r k => ?_, fun r q => ?_⟩
  · rw [e14, pay2_apply, kH_next m c ok t A h xn _ _ hA hh hx hr]; rfl
  · rw [e15, pay3_apply, kY_next m c ok t A h xn _ _ hA hh hx hr, E_v31, ok.bout, add_zero, if_pos (by rfl)]; rfl
  · rw [eA, hA]
  · rw [eh, kH_next m c ok t A h xn _ _ hA hh hx hr]; rfl
  · rw [ex, kXn_apply, kY_next m c ok t A h xn _ _ hA hh hx hr]; rfl

end Cert.Proof.KRun

end
-- ==== Proof.KInd.lean ====
/- The kernel's run by induction over its points, and the two arrays it leaves. -/
module

public import proofs.«01_k».proof.Proof.KRun

@[expose] public section

set_option maxRecDepth 16384

noncomputable section

namespace Cert.Proof.KRun

open Cert.KernelIdeal Cert.KernelIdeal.Gen Cert.Proof.Spec Cert.Proof.KStep Cert.Proof.KIdeal Cert.Proof.Host
open Idealize.ShloMosaic Idealize.ShloMosaic.TcCoe Idealize.SL.Sem

variable (m : (ℓ : Loc nD τ sig) → Buf (Elt Ideal) ℓ) (c : Dev nD)

/-! The first point's five contents. -/

theorem atA_14 (t : Fin cfg0.N) (h0 : t.val % 24 = 0) : (outsAt0 m c t.val t.isLt).1 = k0_pay2 (kH (k0_pay4 (V m c main_v5) (V m c main_v2) (V m c main_v8)) (k0_pay5 (F := Ideal)) (k0_pay6 (F := Ideal)) (iblk m c 0 t) (V m c main_v16) (V m c main_v17) (V m c main_v18) (V m c main_v20) (V m c main_v22) (V m c main_v27) (V m c main_v28) (V m c main_v29)) := by
  have e : out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) = k0_pay2 (kH (k0_pay4 (V m c main_v5) (V m c main_v2) (V m c main_v8)) (k0_pay5 (F := Ideal)) (k0_pay6 (F := Ideal)) (iblk m c 0 t) (V m c main_v16) (V m c main_v17) (V m c main_v18) (V m c main_v20) (V m c main_v22) (V m c main_v27) (V m c main_v28) (V m c main_v29)) := out0_A_14_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31)
  rw [← e, outsAt0_A m c t h0, iblk1_eq, iblk2_eq, iblk3_eq, iblk4_eq, iblk5_eq, iblk6_eq, iblk7_eq, iblk8_eq, iblk9_eq, iblk10_eq, iblk11_eq, iblk12_eq, iblk13_eq]

set_option maxHeartbeats 2000000 in
theorem atA_15 (t : Fin cfg0.N) (h0 : t.val % 24 = 0) : (outsAt0 m c t.val t.isLt).2.1 = k0_pay3 (kY (k0_pay4 (V m c main_v5) (V m c main_v2) (V m c main_v8)) (k0_pay5 (F := Ideal)) (k0_pay6 (F := Ideal)) (iblk m c 0 t) (V m c main_v16) (V m c main_v17) (V m c main_v18) (V m c main_v20) (V m c main_v22) (V m c main_v27) (V m c main_v28) (V m c main_v29) (V m c main_v30)) (V m c main_v31) := by
  have e : out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) = k0_pay3 (kY (k0_pay4 (V m c main_v5) (V m c main_v2) (V m c main_v8)) (k0_pay5 (F := Ideal)) (k0_pay6 (F := Ideal)) (iblk m c 0 t) (V m c main_v16) (V m c main_v17) (V m c main_v18) (V m c main_v20) (V m c main_v22) (V m c main_v27) (V m c main_v28) (V m c main_v29) (V m c main_v30)) (V m c main_v31) := out0_A_15_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31)
  rw [← e, outsAt0_A m c t h0, iblk1_eq, iblk2_eq, iblk3_eq, iblk4_eq, iblk5_eq, iblk6_eq, iblk7_eq, iblk8_eq, iblk9_eq, iblk10_eq, iblk11_eq, iblk12_eq, iblk13_eq]

theorem atA_0 (t : Fin cfg0.N) (h0 : t.val % 24 = 0) : (outsAt0 m c t.val t.isLt).2.2.1 = (k0_pay4 (V m c main_v5) (V m c main_v2) (V m c main_v8)) := by
  have e : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) = (k0_pay4 (V m c main_v5) (V m c main_v2) (V m c main_v8)) := sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31)
  rw [← e, outsAt0_A m c t h0, iblk1_eq, iblk2_eq, iblk3_eq, iblk4_eq, iblk5_eq, iblk6_eq, iblk7_eq, iblk8_eq, iblk9_eq, iblk10_eq, iblk11_eq, iblk12_eq, iblk13_eq]

theorem atA_1 (t : Fin cfg0.N) (h0 : t.val % 24 = 0) : (outsAt0 m c t.val t.isLt).2.2.2.1 = kH (k0_pay4 (V m c main_v5) (V m c main_v2) (V m c main_v8)) (k0_pay5 (F := Ideal)) (k0_pay6 (F := Ideal)) (iblk m c 0 t) (V m c main_v16) (V m c main_v17) (V m c main_v18) (V m c main_v20) (V m c main_v22) (V m c main_v27) (V m c main_v28) (V m c main_v29) := by
  have e : sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) = kH (k0_pay4 (V m c main_v5) (V m c main_v2) (V m c main_v8)) (k0_pay5 (F := Ideal)) (k0_pay6 (F := Ideal)) (iblk m c 0 t) (V m c main_v16) (V m c main_v17) (V m c main_v18) (V m c main_v20) (V m c main_v22) (V m c main_v27) (V m c main_v28) (V m c main_v29) := sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31)
  rw [← e, outsAt0_A m c t h0, iblk1_eq, iblk2_eq, iblk3_eq, iblk4_eq, iblk5_eq, iblk6_eq, iblk7_eq, iblk8_eq, iblk9_eq, iblk10_eq, iblk11_eq, iblk12_eq, iblk13_eq]

set_option maxHeartbeats 2000000 in
theorem atA_2 (t : Fin cfg0.N) (h0 : t.val % 24 = 0) : (outsAt0 m c t.val t.isLt).2.2.2.2 = kXn (k0_pay4 (V m c main_v5) (V m c main_v2) (V m c main_v8)) (k0_pay5 (F := Ideal)) (k0_pay6 (F := Ideal)) (iblk m c 0 t) (V m c main_v16) (V m c main_v17) (V m c main_v18) (V m c main_v20) (V m c main_v22) (V m c main_v27) (V m c main_v28) (V m c main_v29) (V m c main_v30) := by
  have e : sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) = kXn (k0_pay4 (V m c main_v5) (V m c main_v2) (V m c main_v8)) (k0_pay5 (F := Ideal)) (k0_pay6 (F := Ideal)) (iblk m c 0 t) (V m c main_v16) (V m c main_v17) (V m c main_v18) (V m c main_v20) (V m c main_v22) (V m c main_v27) (V m c main_v28) (V m c main_v29) (V m c main_v30) := sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31)
  rw [← e, outsAt0_A m c t h0, iblk1_eq, iblk2_eq, iblk3_eq, iblk4_eq, iblk5_eq, iblk6_eq, iblk7_eq, iblk8_eq, iblk9_eq, iblk10_eq, iblk11_eq, iblk12_eq, iblk13_eq]

/-! A later point's five contents, of the point before's. -/

theorem atB_14 (t : Fin cfg0.N) (h0 : ¬t.val % 24 = 0) : (outsAt0 m c t.val t.isLt).1 = k0_pay2 (kH (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (iblk m c 0 t) (V m c main_v16) (V m c main_v17) (V m c main_v18) (V m c main_v20) (V m c main_v22) (V m c main_v27) (V m c main_v28) (V m c main_v29)) := by
  have e : out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 = k0_pay2 (kH (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (iblk m c 0 t) (V m c main_v16) (V m c main_v17) (V m c main_v18) (V m c main_v20) (V m c main_v22) (V m c main_v27) (V m c main_v28) (V m c main_v29)) := out0_B_14_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [← e, outsAt0_B m c t h0, iblk1_eq, iblk2_eq, iblk3_eq, iblk4_eq, iblk5_eq, iblk6_eq, iblk7_eq, iblk8_eq, iblk9_eq, iblk10_eq, iblk11_eq, iblk12_eq, iblk13_eq]

theorem atB_15 (t : Fin cfg0.N) (h0 : ¬t.val % 24 = 0) : (outsAt0 m c t.val t.isLt).2.1 = k0_pay3 (kY (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (iblk m c 0 t) (V m c main_v16) (V m c main_v17) (V m c main_v18) (V m c main_v20) (V m c main_v22) (V m c main_v27) (V m c main_v28) (V m c main_v29) (V m c main_v30)) (V m c main_v31) := by
  have e : out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 = k0_pay3 (kY (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (iblk m c 0 t) (V m c main_v16) (V m c main_v17) (V m c main_v18) (V m c main_v20) (V m c main_v22) (V m c main_v27) (V m c main_v28) (V m c main_v29) (V m c main_v30)) (V m c main_v31) := out0_B_15_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [← e, outsAt0_B m c t h0, iblk1_eq, iblk2_eq, iblk3_eq, iblk4_eq, iblk5_eq, iblk6_eq, iblk7_eq, iblk8_eq, iblk9_eq, iblk10_eq, iblk11_eq, iblk12_eq, iblk13_eq]

theorem atB_0 (t : Fin cfg0.N) (h0 : ¬t.val % 24 = 0) : (outsAt0 m c t.val t.isLt).2.2.1 = (outsAt0 m c (t.val - 1) (Nat.lt_of_le_of_lt (Nat.sub_le _ _) t.isLt)).2.2.1 := by
  have e : sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 = (outsAt0 m c (t.val - 1) (Nat.lt_of_le_of_lt (Nat.sub_le _ _) t.isLt)).2.2.1 := sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [← e, outsAt0_B m c t h0, iblk1_eq, iblk2_eq, iblk3_eq, iblk4_eq, iblk5_eq, iblk6_eq, iblk7_eq, iblk8_eq, iblk9_eq, iblk10_eq, iblk11_eq, iblk12_eq, iblk13_eq]

theorem atB_1 (t : Fin cfg0.N) (h0 : ¬t.val % 24 = 0) : (outsAt0 m c t.val t.isLt).2.2.2.1 = kH (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (iblk m c 0 t) (V m c main_v16) (V m c main_v17) (V m c main_v18) (V m c main_v20) (V m c main_v22) (V m c main_v27) (V m c main_v28) (V m c main_v29) := by
  have e : sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 = kH (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (iblk m c 0 t) (V m c main_v16) (V m c main_v17) (V m c main_v18) (V m c main_v20) (V m c main_v22) (V m c main_v27) (V m c main_v28) (V m c main_v29) := sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [← e, outsAt0_B m c t h0, iblk1_eq, iblk2_eq, iblk3_eq, iblk4_eq, iblk5_eq, iblk6_eq, iblk7_eq, iblk8_eq, iblk9_eq, iblk10_eq, iblk11_eq, iblk12_eq, iblk13_eq]

theorem atB_2 (t : Fin cfg0.N) (h0 : ¬t.val % 24 = 0) : (outsAt0 m c t.val t.isLt).2.2.2.2 = kXn (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (iblk m c 0 t) (V m c main_v16) (V m c main_v17) (V m c main_v18) (V m c main_v20) (V m c main_v22) (V m c main_v27) (V m c main_v28) (V m c main_v29) (V m c main_v30) := by
  have e : sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 = kXn (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (iblk m c 0 t) (V m c main_v16) (V m c main_v17) (V m c main_v18) (V m c main_v20) (V m c main_v22) (V m c main_v27) (V m c main_v28) (V m c main_v29) (V m c main_v30) := sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (V m c main_v5) (V m c main_v2) (V m c main_v8) (V m c main_v16) (V m c main_v17) (V m c main_v18) (V m c main_v20) (V m c main_v22) (V m c main_v27) (V m c main_v28) (V m c main_v29) (V m c main_v30) (V m c main_v31) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [← e, outsAt0_B m c t h0, iblk1_eq, iblk2_eq, iblk3_eq, iblk4_eq, iblk5_eq, iblk6_eq, iblk7_eq, iblk8_eq, iblk9_eq, iblk10_eq, iblk11_eq, iblk12_eq, iblk13_eq]

theorem after_zero (ok : Ok (inp m c)) (t : Fin cfg0.N) (h0 : t.val = 0) : After m c t := by
  have hm : t.val % 24 = 0 := by rw [h0]
  have hs : st (inp m c) t.val = (fun _ _ => 0, fun _ => 0) := by rw [h0]; rfl
  exact after_of m c ok t (k0_pay4 (V m c main_v5) (V m c main_v2) (V m c main_v8)) (k0_pay5 (F := Ideal)) (k0_pay6 (F := Ideal)) (pay4_adj m c ok)
    (fun r k => by rw [pay5_apply, hs]) (fun r q => by rw [pay6_apply, hs]; split <;> rfl)
    (atA_14 m c t hm) (atA_15 m c t hm) (atA_0 m c t hm) (atA_1 m c t hm) (atA_2 m c t hm)

theorem after_succ (ok : Ok (inp m c)) (t : Fin cfg0.N) (h0 : ¬ t.val = 0) (ih : After m c ⟨t.val - 1, by omega⟩) : After m c t := by
  have h24 := lt_N t
  have hm : ¬ t.val % 24 = 0 := by omega
  have hs : t.val - 1 + 1 = t.val := by omega
  have ihh := ih.h
  have ihx := ih.xn
  simp only [hs] at ihh ihx
  exact after_of m c ok t _ _ _ ih.A ihh ihx (atB_14 m c t hm) (atB_15 m c t hm) (atB_0 m c t hm) (atB_1 m c t hm) (atB_2 m c t hm)

theorem after (ok : Ok (inp m c)) : ∀ (n : ℕ) (hn : n < cfg0.N), After m c ⟨n, hn⟩
  | 0, hn => after_zero m c ok ⟨0, hn⟩ rfl
  | n + 1, hn => after_succ m c ok ⟨n + 1, hn⟩ (Nat.succ_ne_zero n) (after ok n (by omega))

/-- The states the kernel leaves. -/
theorem G14_apply (ok : Ok (inp m c)) (b : Fin 32) (t : Fin 24) (n : Fin 184) (k : Fin 64) :
    Value.G14 m c (ix4 b t n k) = (st (inp m c) (t.val + 1)).1 (row b n) k := by
  have ht : t.val < cfg0.N := lt_of_lt_of_eq t.isLt N_0.symm
  have hp : Value.pt14Of (ix4 b t n k) = t.val := by
    show 24 * (b.val / 32 - 0) + 1 * (t.val / 1 - 0) + 1 * (n.val / 184 - 0) + 1 * (k.val / 64 - 0) = t.val
    omega
  have hl : Value.loc14Of (ix4 b t n k) = ix4 b 0 n k := by
    funext a; apply Fin.ext
    match a with
    | ⟨0, _⟩ => exact Nat.mod_eq_of_lt b.isLt
    | ⟨1, _⟩ => exact Nat.mod_one _
    | ⟨2, _⟩ => exact Nat.mod_eq_of_lt n.isLt
    | ⟨3, _⟩ => exact Nat.mod_eq_of_lt k.isLt
  have hg : Value.G14 m c (ix4 b t n k) = (outsAt0 m c t.val ht).1 (ix4 b 0 n k) := by
    unfold Value.G14
    rw [dif_pos (by rw [hp]; exact ht), hl, Value.outsAt0_sweep, Value.fold0_congr m c _ _ _ _ hp.symm]
  rw [hg]
  exact (after m c ok t.val ht).o14 b n k

/-- The predictions the kernel leaves. -/
theorem G15_apply (ok : Ok (inp m c)) (b : Fin 32) (t : Fin 24) (n : Fin 184) :
    Value.G15 m c (ix4 b t n (0 : Fin 1)) = (st (inp m c) (t.val + 1)).2 (row b n) := by
  have ht : t.val < cfg0.N := lt_of_lt_of_eq t.isLt N_0.symm
  have hp : Value.pt15Of (ix4 b t n (0 : Fin 1)) = t.val := by
    show 24 * (b.val / 32 - 0) + 1 * (t.val / 1 - 0) + 1 * (n.val / 184 - 0) + 1 * (0 / 1 - 0) = t.val
    omega
  have hl : Value.loc15Of (ix4 b t n (0 : Fin 1)) = ix4 b 0 n 0 := by
    funext a; apply Fin.ext
    match a with
    | ⟨0, _⟩ => exact Nat.mod_eq_of_lt b.isLt
    | ⟨1, _⟩ => exact Nat.mod_one _
    | ⟨2, _⟩ => exact Nat.mod_eq_of_lt n.isLt
    | ⟨3, _⟩ => exact Nat.mod_one _
  have hg : Value.G15 m c (ix4 b t n (0 : Fin 1)) = (outsAt0 m c t.val ht).2.1 (ix4 b 0 n 0) := by
    unfold Value.G15
    rw [dif_pos (by rw [hp]; exact ht), hl, Value.outsAt0_sweep, Value.fold0_congr m c _ _ _ _ hp.symm]
  rw [hg]
  exact (after m c ok t.val ht).o15 b n

end Cert.Proof.KRun

end
-- ==== Proof.RefOps.lean ====
/- The reference's gather and scatter-add by rows, and the sum over all edges as a sum over one graph's edges. -/
module

public import proofs.«01_k».proof.Proof.Spec
public import proofs.«01_k».proof.ReferenceIdeal
public import proofs.«01_k».proof.Proof.Gen.ReferenceIdeal
public import Idealize.ShloMosaic.Lib.Pointwise
public import Idealize.ShloMosaic.Lib.Routing.OpsPair
public import Idealize.ShloMosaic.Lib.StableHlo.Predicate

@[expose] public section

set_option maxRecDepth 16384

noncomputable section

namespace Cert.Proof.RefOps

open Cert.ReferenceIdeal Cert.ReferenceIdeal.Gen Cert.Proof.Spec
open Idealize.ShloMosaic

/-- A word below `2^31` read signed is its value. -/
theorem toInt_of (a : BitVec 32) (h : a.toNat < 5888) : a.toInt = (a.toNat : Int) :=
  StableHlo.Predicate.toInt_eq_toNat_of_lt (by omega)

/-- The gather reads, at row `e`, the operand's row that index word `e` names. -/
theorem gather_row (x : FVec Ideal S5888x29 .f32) (idx : IVec S115872x1 32) (e : Fin 115872) (q : Fin 29) (h : (idx (ix2 e 0)).toNat < 5888) :
    Host.gather gather_S5888x29_S115872x1_S115872x29_1_0_n_n_0_1_129 x idx (ix2 e q) = x (ix2 (⟨(idx (ix2 e 0)).toNat, h⟩ : Fin 5888) q) := by
  unfold Host.gather
  refine congrArg x (funext fun a => Fin.ext ?_)
  have hi : ∀ k, gather_S5888x29_S115872x1_S115872x29_1_0_n_n_0_1_129.siIdx (ix2 e q) k = ix2 e (0 : Fin 1) := by
    intro k
    funext b
    match b with
    | ⟨0, _⟩ => rfl
    | ⟨1, _⟩ => exact Subsingleton.elim (α := Fin 1) _ _
  match a with
  | ⟨0, _⟩ =>
    show min (idx (gather_S5888x29_S115872x1_S115872x29_1_0_n_n_0_1_129.siIdx (ix2 e q) _)).toInt.toNat 5887 + 0 + 0 = (idx (ix2 e 0)).toNat
    rw [hi, toInt_of _ h]
    omega
  | ⟨1, _⟩ =>
    show 0 + 0 + q.val = q.val
    omega

/-- Update `(e, q')` lands at `(r, q)` when index word `e` names row `r` and the columns agree. -/
theorem scatter_lands (idx : IVec S115872x1 32) (e : Fin 115872) (q' : Fin 29) (r : Fin 5888) (q : Fin 29) (h : (idx (ix2 e 0)).toNat < 5888) :
    scatter_S5888x29_S115872x1_S115872x29_1_0_0_1.resultIdx? (ix2 e q') idx = some (ix2 r q) ↔ (idx (ix2 e 0)).toNat = r.val ∧ q' = q := by
  have hi : ∀ k, scatter_S5888x29_S115872x1_S115872x29_1_0_0_1.siIdx (ix2 e q') k = ix2 e (0 : Fin 1) := by
    intro k
    funext b
    match b with
    | ⟨0, _⟩ => rfl
    | ⟨1, _⟩ => exact Subsingleton.elim (α := Fin 1) _ _
  have h0 : scatter_S5888x29_S115872x1_S115872x29_1_0_0_1.start (ix2 e q') idx 0 = ((idx (ix2 e 0)).toNat : Int) := by
    show (idx (scatter_S5888x29_S115872x1_S115872x29_1_0_0_1.siIdx (ix2 e q') _)).toInt = _
    rw [hi, toInt_of _ h]
  have h1 : scatter_S5888x29_S115872x1_S115872x29_1_0_0_1.start (ix2 e q') idx 1 = 0 := rfl
  have w0 : scatter_S5888x29_S115872x1_S115872x29_1_0_0_1.window (ix2 e q') 0 = 0 := rfl
  have w1 : scatter_S5888x29_S115872x1_S115872x29_1_0_0_1.window (ix2 e q') 1 = q'.val := rfl
  rw [Routing.resultIdx?_eq_some]
  constructor
  · intro k
    have k0 := k 0
    have k1 := k 1
    rw [h0, w0] at k0
    rw [h1, w1] at k1
    have k0' : ((idx (ix2 e 0)).toNat : Int) + (0 : ℕ) = (r.val : Int) := k0
    have k1' : (0 : Int) + (q'.val : Int) = (q.val : Int) := k1
    exact ⟨by omega, Fin.ext (by omega)⟩
  · rintro ⟨k0, rfl⟩ a
    match a with
    | ⟨0, _⟩ =>
      show scatter_S5888x29_S115872x1_S115872x29_1_0_0_1.start (ix2 e q') idx 0 + (scatter_S5888x29_S115872x1_S115872x29_1_0_0_1.window (ix2 e q') 0 : Int) = (r.val : Int)
      rw [h0, w0, k0]; rfl
    | ⟨1, _⟩ =>
      show scatter_S5888x29_S115872x1_S115872x29_1_0_0_1.start (ix2 e q') idx 1 + (scatter_S5888x29_S115872x1_S115872x29_1_0_0_1.window (ix2 e q') 1 : Int) = (q'.val : Int)
      rw [h1, w1, zero_add]

/-- The scatter-add by rows: what the row held plus the updates whose index word names it. -/
theorem scatter_row (x : FVec Ideal S5888x29 .f32) (idx : IVec S115872x1 32) (upd : FVec Ideal S115872x29 .f32)
    (h : ∀ e, (idx (ix2 e 0)).toNat < 5888) (r : Fin 5888) (q : Fin 29) :
    Host.scatterAdd scatter_S5888x29_S115872x1_S115872x29_1_0_0_1 x idx upd (ix2 r q)
      = x (ix2 r q) + ∑ e : Fin 115872, if (idx (ix2 e 0)).toNat = r.val then upd (ix2 e q) else 0 := by
  show x (ix2 r q) + ∑ j ∈ Finset.univ.filter (fun j => scatter_S5888x29_S115872x1_S115872x29_1_0_0_1.resultIdx? j idx = some (ix2 r q)), upd j = _
  rw [Finset.sum_filter]
  refine congrArg (x (ix2 r q) + ·) ?_
  refine (ValueIdx.sum_idx2 (n0 := 115872) (n1 := 29) (fun j => if scatter_S5888x29_S115872x1_S115872x29_1_0_0_1.resultIdx? j idx = some (ix2 r q) then upd j else 0)).trans ?_
  refine Finset.sum_congr rfl fun e _ => ?_
  have e1 : ∀ q' : Fin 29, (if scatter_S5888x29_S115872x1_S115872x29_1_0_0_1.resultIdx? (ix2 e q') idx = some (ix2 r q) then upd (ix2 e q') else 0)
      = if q' = q then (if (idx (ix2 e 0)).toNat = r.val then upd (ix2 e q) else 0) else 0 := by
    intro q'
    by_cases hq : q' = q
    · subst hq
      rw [if_pos rfl]
      exact if_congr ((scatter_lands idx e q' r q' (h e)).trans (and_iff_left rfl)) rfl rfl
    · rw [if_neg hq, if_neg fun k => hq ((scatter_lands idx e q' r q (h e)).1 k).2]
  refine (Finset.sum_congr rfl fun q' _ => e1 q').trans ?_
  rw [Finset.sum_ite_eq' Finset.univ q]
  exact if_pos (Finset.mem_univ q)

/-- A sum over all edges, graph by graph. -/
theorem sum_edges (f : Fin 115872 → EReal) : ∑ e, f e = ∑ b : Fin 32, ∑ e : Fin 3621, f (edge b e) := by
  refine ((finProdFinEquiv (m := 32) (n := 3621)).sum_comp (fun e : Fin (32 * 3621) => f e)).symm.trans ?_
  rw [Fintype.sum_prod_type]
  refine Finset.sum_congr rfl fun b _ => Finset.sum_congr rfl fun e _ => congrArg f (Fin.ext ?_)
  show e.val + 3621 * b.val = 3621 * b.val + e.val
  omega

variable (I : Inp) (ok : Ok I)

include ok in
theorem src_lt' (e : Fin 115872) : (I.src e).toNat < 5888 := by
  have h := ok.src_eq ⟨e.val / 3621, by omega⟩ ⟨e.val % 3621, by omega⟩
  have h' := ok.src_lt ⟨e.val % 3621, by omega⟩
  have he : edge ⟨e.val / 3621, by omega⟩ ⟨e.val % 3621, by omega⟩ = e := Fin.ext (by simp only [edge]; omega)
  rw [he] at h
  have := e.isLt
  omega

include ok in
theorem dst_lt' (e : Fin 115872) : (I.dst e).toNat < 5888 := by
  have h := ok.dst_eq ⟨e.val / 3621, by omega⟩ ⟨e.val % 3621, by omega⟩
  have h' := ok.dst_lt ⟨e.val % 3621, by omega⟩
  have he : edge ⟨e.val / 3621, by omega⟩ ⟨e.val % 3621, by omega⟩ = e := Fin.ext (by simp only [edge]; omega)
  rw [he] at h
  have := e.isLt
  omega

/-- The sum over all edges into row `r` is the sum over one graph's edges into its node. -/
theorem sum_agg (x : Fin 5888 → Fin 29 → EReal) (r : Fin 5888) (q : Fin 29) :
    (∑ e : Fin 115872, if (I.dst e).toNat = r.val then I.w e * x ⟨(I.src e).toNat, src_lt' I ok e⟩ q else 0) = agg I x r q := by
  rw [sum_edges, Finset.sum_eq_single (gb r)]
  · unfold agg
    refine Finset.sum_congr rfl fun e _ => ?_
    have hd := ok.dst_lt e
    have hs := ok.src_lt e
    have hsrc : (⟨(I.src (edge (gb r) e)).toNat, src_lt' I ok _⟩ : Fin 5888) = row (gb r) (src0 I e) := Fin.ext (by
      show (I.src (edge (gb r) e)).toNat = 184 * (gb r).val + (I.src (edge 0 e)).toNat % 184
      rw [ok.src_eq]; omega)
    rw [hsrc, ok.w_eq]
    refine if_congr ?_ rfl rfl
    rw [ok.dst_eq, Fin.ext_iff]
    show 184 * (r.val / 184) + (I.dst (edge 0 e)).toNat = r.val ↔ (I.dst (edge 0 e)).toNat % 184 = r.val % 184
    omega
  · intro b _ hb
    refine Finset.sum_eq_zero fun e _ => if_neg fun k => hb (Fin.ext ?_)
    rw [ok.dst_eq] at k
    have hd := ok.dst_lt e
    show b.val = r.val / 184
    omega
  · intro k
    exact absurd (Finset.mem_univ _) k

end Cert.Proof.RefOps

end
-- ==== Proof.RefStep.lean ====
/- One trip of the reference's loop at an index: the recurrence's step. -/
module

public import proofs.«01_k».proof.Proof.RefOps
public import proofs.«01_k».proof.Proof.Gen.ReferenceIdeal.Step
public import Idealize.ShloMosaic.Lib.DynamicIndex

@[expose] public section

set_option maxRecDepth 16384

noncomputable section

namespace Cert.Proof.RefStep

open Cert.ReferenceIdeal Cert.ReferenceIdeal.Gen Cert.ReferenceIdeal.Step Cert.Proof.Spec Cert.Proof.RefOps
open Idealize.ShloMosaic

/-- The arguments a state carries, by coordinates. -/
def sinp (s : State Ideal) : Inp where
  X b t n q := s.main_v4_1 (ix4 b t n q)
  y b t n := s.main_v4_0 (ix4 b t n (0 : Fin 1))
  Wrel q k := s.main_v4_5 (ix2 q k)
  Wroot q k := s.main_v4_6 (ix2 q k)
  bconv k := s.main_v4_7 (ix1 k)
  Wih q k := s.main_v4_8 (ix2 q k)
  Whh q k := s.main_v4_10 (ix2 q k)
  bih k := s.main_v4_9 (ix1 k)
  bhh k := s.main_v4_11 (ix1 k)
  Wout k := s.main_v4_12 (ix2 k (0 : Fin 1))
  bout := s.main_v4_13 (ix1 (0 : Fin 1))
  src e := s.main_v4_3 (ix1 e)
  dst e := s.main_v4_4 (ix1 e)
  w e := s.main_v4_2 (ix1 e)

/-- A state's hidden rows and carried column. -/
def sH (s : State Ideal) (r : Fin 5888) (k : Fin 64) : EReal := s.main_v4_16 (ix2 r k)
def sX (s : State Ideal) (r : Fin 5888) : EReal := s.main_v4_17 (ix3 (gb r) (nd r) (0 : Fin 1))

variable (j : ℕ) (hj : j < 24) (s : State Ideal)

/-! ## The step's input rows -/

include hj in
theorem b7_val (i : S_.Idx) : b7 j s i = BitVec.ofNat 32 j := by
  show Scalar.select (IntOp.cmpi .slt (BitVec.ofNat 32 j) 0#32) _ (BitVec.ofNat 32 j) = _
  exact Routing.wrap_of_lt _ _ (by rw [BitVec.toNat_ofNat]; omega)

include hj in
theorem b18_val (i : S_.Idx) : b18 j s i = BitVec.ofNat 32 j := by
  show Scalar.select (IntOp.cmpi .slt (BitVec.ofNat 32 j) 0#32) _ (BitVec.ofNat 32 j) = _
  exact Routing.wrap_of_lt _ _ (by rw [BitVec.toNat_ofNat]; omega)

theorem sl1 (hj : j < 24) : S32x48x184x1.Slices ![0, j, 0, 0] S32x1x184x1 := ⟨rfl, fun a => by
  match a with
  | ⟨0, _⟩ => exact Nat.le_refl 32
  | ⟨1, _⟩ => show j + 1 ≤ 48; omega
  | ⟨2, _⟩ => exact Nat.le_refl 184
  | ⟨3, _⟩ => exact Nat.le_refl 1⟩

theorem sl27 (hj : j < 24) : S32x48x184x27.Slices ![0, j, 0, 0] S32x1x184x27 := ⟨rfl, fun a => by
  match a with
  | ⟨0, _⟩ => exact Nat.le_refl 32
  | ⟨1, _⟩ => show j + 1 ≤ 48; omega
  | ⟨2, _⟩ => exact Nat.le_refl 184
  | ⟨3, _⟩ => exact Nat.le_refl 27⟩

include hj in
theorem b11_eq : b11 j s = extractStridedSlice S32x1x184x1 ![0, j, 0, 0] s.main_v4_0 (sl1 j hj) := by
  unfold b11
  refine Host.dynamicSlice_eq_extractStridedSlice _ _ _ _ _ _ fun a => ?_
  match a with
  | ⟨0, _⟩ => rfl
  | ⟨1, _⟩ =>
    show (b7 j s _).toInt = (j : Int)
    rw [b7_val j hj, toInt_ofNat_of_lt (by omega)]
  | ⟨2, _⟩ => rfl
  | ⟨3, _⟩ => rfl

include hj in
theorem b22_eq : b22 j s = extractStridedSlice S32x1x184x27 ![0, j, 0, 0] s.main_v4_1 (sl27 j hj) := by
  unfold b22
  refine Host.dynamicSlice_eq_extractStridedSlice _ _ _ _ _ _ fun a => ?_
  match a with
  | ⟨0, _⟩ => rfl
  | ⟨1, _⟩ =>
    show (b18 j s _).toInt = (j : Int)
    rw [b18_val j hj, toInt_ofNat_of_lt (by omega)]
  | ⟨2, _⟩ => rfl
  | ⟨3, _⟩ => rfl

theorem at_eq (hj : j < 24) (h : j < 48) : (⟨j, h⟩ : Fin 48) = at48 j := Fin.ext (Nat.mod_eq_of_lt h).symm

include hj in
theorem b12_apply (b : Fin 32) (n : Fin 184) : b12 j s (ix3 b n (0 : Fin 1)) = (sinp s).y b (at48 j) n := by
  unfold b12
  rw [b11_eq j hj]
  pointwise
  rw [at_eq j hj]
  rfl

include hj in
theorem b23_apply (b : Fin 32) (n : Fin 184) (q : Fin 27) : b23 j s (ix3 b n q) = (sinp s).X b (at48 j) n q := by
  unfold b23
  rw [b22_eq j hj]
  pointwise
  rw [at_eq j hj]
  rfl

include hj in
theorem b25_apply (r : Fin 5888) (q : Fin 29) : b25 j s (ix2 r q) = xf (sinp s) j (sX s) r q := by
  unfold b25 b24
  pointwise
  unfold xf
  by_cases h0 : q.val = 0
  · rw [dif_pos (by omega), if_pos h0]
    exact congrArg (fun i => s.main_v4_17 (ix3 (gb r) (nd r) i)) (Subsingleton.elim (α := Fin 1) _ _)
  · rw [dif_neg (by omega), if_neg h0]
    by_cases h1 : q.val = 1
    · rw [dif_pos (by omega), if_pos h1, ← b12_apply j hj]
      exact congrArg (fun i => b12 j s (ix3 (gb r) (nd r) i)) (Subsingleton.elim (α := Fin 1) _ _)
    · rw [dif_neg (by omega), if_neg h1, ← b23_apply j hj]
      exact congrArg (fun i => b23 j s (ix3 (gb r) (nd r) i)) (Fin.ext (by show q.val - 1 - 1 = (q.val - 2) % 27; omega))

/-! ## The neighbours' sum -/

theorem b34_apply (e : Fin 115872) (h : ((sinp s).src e).toNat < 5888) : b34 j s (ix2 e (0 : Fin 1)) = (sinp s).src e := by
  unfold b34 b33 b32 b31 b30 b29 b28 b27
  pointwise
  exact Routing.wrap_of_lt _ _ (lt_trans h (by decide))

theorem b47_apply (e : Fin 115872) (h : ((sinp s).dst e).toNat < 5888) : b47 j s (ix2 e (0 : Fin 1)) = (sinp s).dst e := by
  unfold b47 b46 b45 b44 b43 b42 b41 b40
  pointwise
  exact Routing.wrap_of_lt _ _ (lt_trans h (by decide))

theorem b37_apply (ok : Ok (sinp s)) (e : Fin 115872) (q : Fin 29) :
    b37 j s (ix2 e q) = (sinp s).w e * b25 j s (ix2 (⟨((sinp s).src e).toNat, src_lt' _ ok e⟩ : Fin 5888) q) := by
  have hs := b34_apply j s e (src_lt' _ ok e)
  have hg : b35 j s (ix2 e q) = b25 j s (ix2 (⟨((sinp s).src e).toNat, src_lt' _ ok e⟩ : Fin 5888) q) := by
    unfold b35
    rw [gather_row (b25 j s) (b34 j s) e q (by rw [hs]; exact src_lt' _ ok e)]
    exact congrArg (fun i => b25 j s (ix2 i q)) (Fin.ext (congrArg BitVec.toNat hs))
  rw [← hg]
  unfold b37 b36 b26
  pointwise
  rfl

theorem b48_apply (ok : Ok (sinp s)) (r : Fin 5888) (q : Fin 29) :
    b48 j s (ix2 r q) = agg (sinp s) (fun r q => b25 j s (ix2 r q)) r q := by
  have hd : ∀ e, b47 j s (ix2 e (0 : Fin 1)) = (sinp s).dst e := fun e => b47_apply j s e (dst_lt' _ ok e)
  have hz : b39 j s (ix2 r q) = 0 := by
    unfold b39 b38
    pointwise
  unfold b48
  rw [scatter_row (b39 j s) (b47 j s) (b37 j s) (fun e => by rw [hd]; exact dst_lt' _ ok e), hz, zero_add,
    ← sum_agg (sinp s) ok]
  refine Finset.sum_congr rfl fun e _ => ?_
  rw [hd, b37_apply j s ok]

/-! ## The gates -/

theorem b54_apply (r : Fin 5888) (k : Fin 64) : b54 j s (ix2 r k) = (∑ q : Fin 29, b48 j s (ix2 r q) * (sinp s).Wrel q k) + (∑ q : Fin 29, b25 j s (ix2 r q) * (sinp s).Wroot q k) + (sinp s).bconv k := by
  unfold b54 b53 b52 b51 b50 b49
  pointwise
  rfl

theorem b62_apply (ok : Ok (sinp s)) (r : Fin 5888) (k : Fin 64) : b62 j s (ix2 r k) = gcn (sinp s) (fun r q => b25 j s (ix2 r q)) r k := by
  unfold b62 b61 b60 b59 b58 b57 b56 b55
  pointwise
  rw [b54_apply]
  show Ideal.logistic _ = _
  unfold gcn
  simp only [b48_apply j s ok]

theorem b63_left (r : Fin 5888) (q : Fin 29) (h : q.val < 93) : b63 j s (ix2 r (⟨q.val, h⟩ : Fin 93)) = b25 j s (ix2 r q) := by
  unfold b63
  pointwise

theorem b63_right (r : Fin 5888) (k : Fin 64) (h : 29 + k.val < 93) : b63 j s (ix2 r (⟨29 + k.val, h⟩ : Fin 93)) = b62 j s (ix2 r k) := by
  unfold b63
  pointwise

theorem b67_apply (ok : Ok (sinp s)) (r : Fin 5888) (c : Fin 192) :
    b67 j s (ix2 r c) = gi (sinp s) (fun r q => b25 j s (ix2 r q)) r c + (sinp s).bih c := by
  unfold b67 b66 b65 b64
  pointwise
  refine congrArg (· + (sinp s).bih c) ?_
  refine (Fin.sum_univ_add (a := 29) (b := 64) (fun q : Fin (29 + 64) => b63 j s (ix2 r q) * (sinp s).Wih q c)).trans ?_
  unfold gi
  refine congrArg₂ (· + ·) (Finset.sum_congr rfl fun q _ => ?_) (Finset.sum_congr rfl fun k _ => ?_)
  · exact congrArg (· * (sinp s).Wih ⟨q.val, by omega⟩ c) (b63_left j s r q (by omega))
  · rw [← b62_apply j s ok]
    exact congrArg (· * (sinp s).Wih ⟨29 + k.val, by omega⟩ c) (b63_right j s r k (by omega))

theorem b71_apply (r : Fin 5888) (c : Fin 192) : b71 j s (ix2 r c) = gh (sinp s) (sH s) r c + (sinp s).bhh c := by
  unfold b71 b70 b69 b68
  pointwise
  rfl

theorem b86_apply (r : Fin 5888) (k : Fin 64) :
    b86 j s (ix2 r k) = Ideal.logistic (b67 j s (ix2 r ⟨k.val, by omega⟩) + b71 j s (ix2 r ⟨k.val, by omega⟩)) := by
  unfold b86 b85 b84 b83 b82 b81 b80 b79 b78 b75 b72
  pointwise
  rfl

theorem b95_apply (r : Fin 5888) (k : Fin 64) :
    b95 j s (ix2 r k) = Ideal.logistic (b67 j s (ix2 r ⟨64 + k.val, by omega⟩) + b71 j s (ix2 r ⟨64 + k.val, by omega⟩)) := by
  unfold b95 b94 b93 b92 b91 b90 b89 b88 b87 b76 b73
  pointwise
  rfl

include hj in
/-- The trip's state is the recurrence's. -/
theorem b104_apply (ok : Ok (sinp s)) (r : Fin 5888) (k : Fin 64) : b104 j s (ix2 r k) = nextH (sinp s) j (sH s) (sX s) r k := by
  have hx : (fun r q => b25 j s (ix2 r q)) = xf (sinp s) j (sX s) := funext fun r => funext fun q => b25_apply j hj s r q
  unfold b104 b103 b102 b101 b100 b99 b98 b97 b96 b77 b74
  pointwise
  rw [b86_apply, b95_apply]
  simp only [b67_apply j s ok, b71_apply, hx]
  rfl

include hj in
/-- The trip's column is the recurrence's. -/
theorem b109_apply (ok : Ok (sinp s)) (b : Fin 32) (n : Fin 184) :
    b109 j s (ix3 b n (0 : Fin 1)) = nextX (sinp s) (nextH (sinp s) j (sH s) (sX s)) (row b n) := by
  unfold b109 b108 b107 b106 b105
  pointwise
  rw [show s.main_v4_13 (ix1 0) = (0 : EReal) from ok.bout, add_zero]
  refine Finset.sum_congr rfl fun k _ => ?_
  rw [← b104_apply j hj s ok]
  exact congrArg (fun i => b104 j s (ix2 i k) * (sinp s).Wout k) (Fin.ext (by show b.val * 184 + n.val = 184 * b.val + n.val; omega))

include hj in
theorem b112_apply (ok : Ok (sinp s)) (b : Fin 32) (t : Fin 24) (n : Fin 184) (k : Fin 64) :
    b112 j s (ix4 b t n k) = if h : t.val < 23 then s.main_v4_18 (ix4 b ⟨1 + t.val, by omega⟩ n k)
      else nextH (sinp s) j (sH s) (sX s) (row b n) k := by
  unfold b112 b111 b110
  pointwise
  refine dite_congr rfl (fun h => rfl) (fun h => ?_)
  rw [← b104_apply j hj s ok]
  exact congrArg (fun i => b104 j s (ix2 i k)) (Fin.ext (by show b.val * 184 + n.val = 184 * b.val + n.val; omega))

include hj in
theorem b115_apply (ok : Ok (sinp s)) (b : Fin 32) (t : Fin 24) (n : Fin 184) :
    b115 j s (ix4 b t n (0 : Fin 1)) = if h : t.val < 23 then s.main_v4_19 (ix4 b ⟨1 + t.val, by omega⟩ n (0 : Fin 1))
      else nextX (sinp s) (nextH (sinp s) j (sH s) (sX s)) (row b n) := by
  unfold b115 b114 b113
  pointwise
  exact dite_congr rfl (fun h => rfl) (fun h => b109_apply j hj s ok b n)

/-! ## The trips -/

/-- What holds of the state before trip `j`: the arguments, the recurrence's state and column, and the results of the trips
    so far at the end of the two carried arrays. -/
structure At (I : Inp) (j : ℕ) (s : State Ideal) : Prop where
  inp : sinp s = I
  h : sH s = (st I j).1
  x : sX s = (st I j).2
  hs : ∀ (b : Fin 32) (t : Fin 24) (n : Fin 184) (k : Fin 64), 24 ≤ j + t.val →
    s.main_v4_18 (ix4 b t n k) = (st I (j + t.val - 24 + 1)).1 (row b n) k
  ps : ∀ (b : Fin 32) (t : Fin 24) (n : Fin 184), 24 ≤ j + t.val →
    s.main_v4_19 (ix4 b t n (0 : Fin 1)) = (st I (j + t.val - 24 + 1)).2 (row b n)

theorem at_step (I : Inp) (ok : Ok I) (hj : j < 24) (a : At I j s) : At I (j + 1) (step j s) := by
  have ha := a.inp
  have hok : Ok (sinp s) := by rw [ha]; exact ok
  have hH : nextH (sinp s) j (sH s) (sX s) = (st I (j + 1)).1 := by rw [ha, a.h, a.x]; rfl
  have hX : nextX (sinp s) (nextH (sinp s) j (sH s) (sX s)) = (st I (j + 1)).2 := by rw [ha, a.h, a.x]; rfl
  refine ⟨?_, ?_, ?_, ?_, ?_⟩
  · rw [← ha]; rfl
  · funext r k
    show (step j s).main_v4_16 (ix2 r k) = _
    rw [step_main_v4_16, b104_apply j hj s hok, hH]
  · funext r
    show (step j s).main_v4_17 (ix3 (gb r) (nd r) (0 : Fin 1)) = _
    rw [step_main_v4_17, b109_apply j hj s hok, hX, row_gb_nd]
  · intro b t n k ht
    rw [step_main_v4_18, b112_apply j hj s hok]
    by_cases h : t.val < 23
    · rw [dif_pos h, a.hs b ⟨1 + t.val, by omega⟩ n k (by show 24 ≤ j + (1 + t.val); omega)]
      show (st I (j + (1 + t.val) - 24 + 1)).1 _ _ = _
      rw [show j + (1 + t.val) = j + 1 + t.val by omega]
    · rw [dif_neg h, hH, show j + 1 + t.val - 24 + 1 = j + 1 by omega]
  · intro b t n ht
    rw [step_main_v4_19, b115_apply j hj s hok]
    by_cases h : t.val < 23
    · rw [dif_pos h, a.ps b ⟨1 + t.val, by omega⟩ n (by show 24 ≤ j + (1 + t.val); omega)]
      show (st I (j + (1 + t.val) - 24 + 1)).2 _ = _
      rw [show j + (1 + t.val) = j + 1 + t.val by omega]
    · rw [dif_neg h, hX, show j + 1 + t.val - 24 + 1 = j + 1 by omega]

/-- The states from `s0` on. -/
def it (s0 : State Ideal) : ℕ → State Ideal
  | 0 => s0
  | n + 1 => step n (it s0 n)

theorem at_it (I : Inp) (ok : Ok I) (s0 : State Ideal) (h0 : At I 0 s0) : ∀ n, n ≤ 24 → At I n (it s0 n)
  | 0, _ => h0
  | n + 1, hn => at_step n (it s0 n) I ok (by omega) (at_it I ok s0 h0 n (by omega))

end Cert.Proof.RefStep

end
-- ==== Proof.Pre.lean ====
/- What the precondition says of the arguments. -/
module

public import proofs.«01_k».proof.Proof.Spec
public import proofs.«01_k».proof.Pre_as_drawn
public import Idealize.ShloMosaic.Lib.Pointwise
public import Idealize.ShloMosaic.Lib.ReduceAll
public import Idealize.ShloMosaic.Lib.Affine
public import Idealize.ShloMosaic.Lib.WordArith

@[expose] public section

set_option maxRecDepth 16384

noncomputable section

namespace Cert.Proof.Pre

open Cert.Pre_as_drawn Cert.Proof.Spec
open Idealize.ShloMosaic

instance facts : Cert.Pre_as_drawn.Facts := by
  constructor <;> first | decide | exact ⟨by decide, by decide⟩

variable [Cert.Pre_as_drawn.Facts]

instance : Subsingleton S_.Idx := ⟨fun a b => funext fun i => i.elim0⟩

theorem ofBits_inf : Ideal.ofBits .f32 0x7F800000#32 = (⊤ : EReal) := by
  show Ideal.ieee 8 23 (0x7F800000#32 : BitVec 32) = ⊤
  simp [Ideal.ieee]

theorem of_ofBool {b : Bool} (h : BitVec.ofBool b = 1#1) : b = true := by cases b <;> simp_all

/-- A number whose absolute value is below infinity is real. -/
theorem isR_of_lt {x : EReal} (h : BitVec.ofBool (decide (FloatOps.absf (F := Ideal) (φ := .f32) x < Ideal.ofBits FTy.f32 2139095040#32)) = 1#1) : IsR x := by
  have h := of_decide_eq_true (of_ofBool h)
  rw [ofBits_inf] at h
  have h : max x (-x) < ⊤ := h
  rw [max_lt_iff] at h
  refine isR_of_abs (ne_of_lt h.1) fun e => ?_
  rw [e] at h
  exact absurd h.2 (by simp)

/-- A word that is signed at least zero and less than 184 is a number below 184. -/
theorem word_lt {x : BitVec 32} (h : IntOp.andi (IntOp.cmpi CmpIPredicate.sge x 0#32) (IntOp.cmpi CmpIPredicate.slt x 184#32) = 1#1) :
    x.toNat < 184 := by
  rw [IntOp.andi_eq_one, IntOp.cmpi_sge, IntOp.cmpi_slt] at h
  have h0 : (0#32 : BitVec 32).toInt = 0 := rfl
  have h1 : (184#32 : BitVec 32).toInt = 184 := rfl
  rw [h0, h1, BitVec.toInt_eq_toNat_cond] at h
  split at h <;> omega

/-- A word that is a small word plus a multiple of 184 below 32 of them is that sum as a number. -/
theorem word_eq {x y : BitVec 32} (b : Fin 32) (hy : y.toNat < 184)
    (h : IntOp.cmpi CmpIPredicate.eq x (IntOp.addi y (IntOp.muli (BitVec.ofNat 32 b.val) 184#32)) = 1#1) :
    x.toNat = 184 * b.val + y.toNat := by
  rw [IntOp.cmpi_eq] at h
  subst h
  have hb := b.isLt
  show (y + BitVec.ofNat 32 b.val * 184#32).toNat = _
  rw [BitVec.toNat_add, BitVec.toNat_mul, BitVec.toNat_ofNat, BitVec.toNat_ofNat]
  omega

variable (a0 : FVec Ideal S32x48x184x27 .f32) (a1 : FVec Ideal S32x48x184x1 .f32) (a2 a3 : FVec Ideal S29x64 .f32)
  (a4 : FVec Ideal S64 .f32) (a5 : FVec Ideal S93x192 .f32) (a6 : FVec Ideal S64x192 .f32) (a7 a8 : FVec Ideal S192 .f32)
  (a9 : FVec Ideal S64x1 .f32) (a10 : FVec Ideal S1 .f32) (a11 a12 : IVec S115872 32) (a13 : FVec Ideal S115872 .f32)

/-- The arguments by coordinates. -/
def inp : Inp where
  X b t n q := a0 (ix4 b t n q)
  y b t n := a1 (ix4 b t n (0 : Fin 1))
  Wrel q k := a2 (ix2 q k)
  Wroot q k := a3 (ix2 q k)
  bconv k := a4 (ix1 k)
  Wih q k := a5 (ix2 q k)
  Whh q k := a6 (ix2 q k)
  bih k := a7 (ix1 k)
  bhh k := a8 (ix1 k)
  Wout k := a9 (ix2 k (0 : Fin 1))
  bout := a10 (ix1 (0 : Fin 1))
  src e := a11 (ix1 e)
  dst e := a12 (ix1 e)
  w e := a13 (ix1 e)

theorem ok (h : Cert.Pre_as_drawn.fn (F := Ideal) a0 a1 a2 a3 a4 a5 a6 a7 a8 a9 a10 a11 a12 a13 = (fun _ => 1#1)) :
    Ok (inp a0 a1 a2 a3 a4 a5 a6 a7 a8 a9 a10 a11 a12 a13) := by
  have h := congrFun h (fun i => i.elim0)
  dsimp only [Cert.Pre_as_drawn.fn, Cert.Pre_as_drawn.fn_part1, Cert.Pre_as_drawn.fn_part2, Cert.Pre_as_drawn.fn_part3, andi] at h
  simp only [IntOp.andi_eq_one] at h
  obtain ⟨⟨⟨⟨⟨⟨⟨⟨⟨⟨hs, hd⟩, hse⟩, hde⟩, hw⟩, hb⟩, hX⟩, hy⟩, hwr⟩, hW⟩, hO⟩ := h
  have hs := Host.reduce_andi_all _ _ _ _ _ hs
  have hd := Host.reduce_andi_all _ _ _ _ _ hd
  have hse := Host.reduce_andi_all _ _ _ _ _ hse
  have hde := Host.reduce_andi_all _ _ _ _ _ hde
  have hw := Host.reduce_andi_all _ _ _ _ _ hw
  have hb := Host.reduce_andi_all _ _ _ _ _ hb
  have hX := Host.reduce_andi_all _ _ _ _ _ hX
  have hy := Host.reduce_andi_all _ _ _ _ _ hy
  have hwr := Host.reduce_andi_all _ _ _ _ _ hwr
  have hW := Host.reduce_andi_all _ _ _ _ _ hW
  have hO := Host.reduce_andi_all _ _ _ _ _ hO
  have hs' := fun e : Fin 3621 => hs (ix2 (0 : Fin 1) e)
  have hd' := fun e : Fin 3621 => hd (ix2 (0 : Fin 1) e)
  have hse' := fun (b : Fin 32) (e : Fin 3621) => hse (ix2 b e)
  have hde' := fun (b : Fin 32) (e : Fin 3621) => hde (ix2 b e)
  have hX' := fun (b : Fin 32) (t : Fin 24) (n : Fin 184) (q : Fin 27) => hX (ix4 b t n q)
  have hy' := fun (b : Fin 32) (t : Fin 24) (n : Fin 184) => hy (ix4 b t n (0 : Fin 1))
  have hw' := fun (b : Fin 32) (e : Fin 3621) => hw (ix2 b e)
  have hb' := hb (ix1 (0 : Fin 1))
  have hwr' := fun e : Fin 115872 => hwr (ix1 e)
  have hW' := fun (q : Fin 29) (k : Fin 64) => hW (ix2 q k)
  have hO' := fun (k : Fin 64) => hO (ix2 k (0 : Fin 1))
  pointwise at hs' hd' hse' hde' hX' hy' hw' hb' hwr' hW' hO'
  have e0 : ∀ e : Fin 3621, edge 0 e = ⟨e.val, by omega⟩ := fun e => Fin.ext (by simp [edge])
  have eb : ∀ (b : Fin 32) (e : Fin 3621), edge b e = ⟨b.val * 3621 + e.val, by omega⟩ := fun b e =>
    Fin.ext (by simp only [edge]; omega)
  have t24 : ∀ (t : ℕ) (ht : t < 24), at48 t = ⟨t, by omega⟩ := fun t ht => Fin.ext (Nat.mod_eq_of_lt (by omega))
  have sl : ∀ e : Fin 3621, (a11 (ix1 (edge 0 e))).toNat < 184 := fun e => by rw [e0]; exact word_lt (hs' e)
  have dl : ∀ e : Fin 3621, (a12 (ix1 (edge 0 e))).toNat < 184 := fun e => by rw [e0]; exact word_lt (hd' e)
  refine ⟨sl, dl, fun b e => ?_, fun b e => ?_, fun b e => ?_, of_decide_eq_true (of_ofBool hb'), fun b t ht n q => ?_,
    fun b t ht n => ?_, fun e => isR_of_lt (hwr' e), fun q k => isR_of_lt (hW' q k), fun k => isR_of_lt (hO' k)⟩
  · show (a11 (ix1 (edge b e))).toNat = 184 * b.val + (a11 (ix1 (edge 0 e))).toNat
    have l := sl e
    rw [e0] at l
    rw [e0, eb]; exact word_eq b l (hse' b e)
  · show (a12 (ix1 (edge b e))).toNat = 184 * b.val + (a12 (ix1 (edge 0 e))).toNat
    have l := dl e
    rw [e0] at l
    rw [e0, eb]; exact word_eq b l (hde' b e)
  · show a13 (ix1 (edge b e)) = a13 (ix1 (edge 0 e))
    rw [e0, eb]; exact of_decide_eq_true (of_ofBool (hw' b e))
  · show IsR (a0 (ix4 b (at48 t) n q))
    rw [t24 t ht]; exact isR_of_lt (hX' b ⟨t, ht⟩ n q)
  · show IsR (a1 (ix4 b (at48 t) n (0 : Fin 1)))
    rw [t24 t ht]; exact isR_of_lt (hy' b ⟨t, ht⟩ n)

end Cert.Proof.Pre
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.KInd
public import proofs.«01_k».proof.Proof.RefStep
public import proofs.«01_k».proof.Proof.Pre
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.StepRun.run_iter (F := Ideal) m ρ (fun c => RefStep.it (Cert.ReferenceIdeal.StepRun.initState m c)) (fun _ => rfl) (fun _ _ => rfl))

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The state the reference's loop starts from: zero state and column, the arguments `I`. -/
theorem at_init (I : Spec.Inp) (h : RefStep.sinp (Cert.ReferenceIdeal.StepRun.initState m' c) = I) :
    RefStep.At I 0 (Cert.ReferenceIdeal.StepRun.initState m' c) := by
  refine ⟨h, ?_, ?_, fun b t n k ht => absurd ht (by have := t.isLt; omega), fun b t n ht => absurd ht (by have := t.isLt; omega)⟩
  · funext r k
    show Cert.ReferenceIdeal.Step.K_main_v0 (F := Ideal) (ix2 r k) = 0
    unfold Cert.ReferenceIdeal.Step.K_main_v0 Cert.ReferenceIdeal.Step.K_main_cst
    pointwise
  · funext r
    show Cert.ReferenceIdeal.Step.K_main_v1 (F := Ideal) (ix3 (Spec.gb r) (Spec.nd r) (0 : Fin 1)) = 0
    unfold Cert.ReferenceIdeal.Step.K_main_v1 Cert.ReferenceIdeal.Step.K_main_cst_0
    pointwise

end Values

theorem algebraic : Cert.algebraic_KernelIdeal_ReferenceIdeal_pre_as_drawn := by
  intro m ρ m' ρ' hpre hagree
  refine ⟨fun c => Cert.KernelIdeal.Value.G14 m c, fun c => Cert.KernelIdeal.Value.G15 m c, Cert.KernelIdeal.Value.run (F := Ideal) m ρ, ?_⟩
  have key : ∀ c : Dev Cert.KernelIdeal.nD, Spec.Ok (Host.inp m c)
      ∧ RefStep.At (Host.inp m c) 24 (RefStep.it (Cert.ReferenceIdeal.StepRun.initState m' c) 24) := by
    intro c
    have hok : Spec.Ok (Host.inp m c) := Pre.ok (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (hpre c)
    obtain ⟨h0, h1, h2, h3, h4, h5, h6, h7, h8, h9, h10, h11, h12, h13⟩ := hagree c
    have hin : RefStep.sinp (Cert.ReferenceIdeal.StepRun.initState m' c) = Host.inp m c := by
      have e : RefStep.sinp (Cert.ReferenceIdeal.StepRun.initState m' c) = Pre.inp (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) := rfl
      rw [e, h0, h1, h2, h3, h4, h5, h6, h7, h8, h9, h10, h11, h12, h13]
      rfl
    exact ⟨hok, RefStep.at_it _ hok _ (at_init m' c _ hin) 24 (le_refl _)⟩
  refine (θ_run Cert.ReferenceIdeal.defs _ _).mono (fun _ h c => ⟨(h c).1.trans ?_, (h c).2.1.trans ?_, (h c).2.2⟩) (Cert.ReferenceIdeal.StepRun.run_iter (F := Ideal) m' ρ' (fun c => RefStep.it (Cert.ReferenceIdeal.StepRun.initState m' c)) (fun _ => rfl) (fun _ _ => rfl))
  · obtain ⟨hok, hat⟩ := key c
    funext i
    obtain ⟨b, t, n, k, rfl⟩ : ∃ (b : Fin 32) (t : Fin 24) (n : Fin 184) (k : Fin 64), i = ix4 b t n k := ⟨_, _, _, _, (ix4_eta i).symm⟩
    refine ((hat.hs b t n k (by omega)).trans ?_).trans (KRun.G14_apply m c hok b t n k).symm
    rw [show 24 + t.val - 24 + 1 = t.val + 1 by omega]
  · obtain ⟨hok, hat⟩ := key c
    funext i
    obtain ⟨b, t, n, k, rfl⟩ : ∃ (b : Fin 32) (t : Fin 24) (n : Fin 184) (k : Fin 1), i = ix4 b t n k := ⟨_, _, _, _, (ix4_eta i).symm⟩
    obtain rfl : k = 0 := Subsingleton.elim _ _
    refine ((hat.ps b t n (by omega)).trans ?_).trans (KRun.G15_apply m c hok b t n).symm
    rw [show 24 + t.val - 24 + 1 = t.val + 1 by omega]

theorem claim : Cert.Claim := ⟨Cert.Kernel.Gen.facts, Cert.KernelIdeal.Gen.facts, Cert.ReferenceIdeal.Gen.facts, Pre.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, algebraic⟩

end Cert.Proof

end
